-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slots_suffice_KernelIdeal [hPre_slots_suffice_KernelIdeal : Cert.Pre_slots_suffice_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_slots_suffice_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_slots_suffice_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_slots_suffice_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_suffice_ReferenceIdeal [hPre_slots_suffice_ReferenceIdeal : Cert.Pre_slots_suffice_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_suffice_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_slots_suffice_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_slots_suffice_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_slots_suffice_KernelIdeal [hKernelIdeal : Cert.KernelIdeal.Facts] [hPre_slots_suffice_KernelIdeal : Cert.Pre_slots_suffice_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots_suffice_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_slots_suffice_ReferenceIdeal [hReferenceIdeal : Cert.ReferenceIdeal.Facts] [hPre_slots_suffice_ReferenceIdeal : Cert.Pre_slots_suffice_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_suffice_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_slots_suffice_KernelIdeal [hKernelIdeal : Cert.KernelIdeal.Facts] [hReferenceIdeal : Cert.ReferenceIdeal.Facts] [hPre_slots_suffice_KernelIdeal : Cert.Pre_slots_suffice_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots_suffice_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_slots_suffice_KernelIdeal : Cert.Pre_slots_suffice_KernelIdeal.Facts) (hPre_slots_suffice_ReferenceIdeal : Cert.Pre_slots_suffice_ReferenceIdeal.Facts),
    quiescent_Kernel (hKernel := hKernel)
    ∧ quiescent_KernelIdeal (hKernelIdeal := hKernelIdeal)
    ∧ quiescent_KernelIdeal_pre_slots_suffice_KernelIdeal (hKernelIdeal := hKernelIdeal) (hPre_slots_suffice_KernelIdeal := hPre_slots_suffice_KernelIdeal)
    ∧ quiescent_ReferenceIdeal (hReferenceIdeal := hReferenceIdeal)
    ∧ quiescent_ReferenceIdeal_pre_slots_suffice_ReferenceIdeal (hReferenceIdeal := hReferenceIdeal) (hPre_slots_suffice_ReferenceIdeal := hPre_slots_suffice_ReferenceIdeal)
    ∧ preserves_Kernel_KernelIdeal
    ∧ algebraic_KernelIdeal_ReferenceIdeal_pre_slots_suffice_KernelIdeal (hKernelIdeal := hKernelIdeal) (hReferenceIdeal := hReferenceIdeal) (hPre_slots_suffice_KernelIdeal := hPre_slots_suffice_KernelIdeal)
-- ==== Pre_slots_suffice_KernelIdeal.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S8 : Shape := ⟨1, ![8]⟩
abbrev S1x8 : Shape := ⟨2, ![1, 8]⟩
abbrev S_ : Shape := ⟨0, ![]⟩
abbrev S2048x8 : Shape := ⟨2, ![2048, 8]⟩
abbrev S8x256x8 : Shape := ⟨3, ![8, 256, 8]⟩
abbrev S8x8 : Shape := ⟨2, ![8, 8]⟩

class Facts : Prop where
  bcast_S8_S1x8_1 : S8.BroadcastsInDim S1x8 (![1] : Fin 1 → Fin S1x8.rank)
  bcast_S_S1x8 : S_.BroadcastsInDim S1x8 (![] : Fin 0 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  natLt_1_32 : 1 < 32
  shapeCasts_S2048x8_S8x256x8 : S2048x8.ShapeCasts S8x256x8
  reducesTo_S8x256x8_S8x8_d1 : S8x256x8.ReducesTo [1] S8x8
  h_S_ : 0 < S_.numel
  bcast_S_S8x8 : S_.BroadcastsInDim S8x8 (![] : Fin 0 → Fin S8x8.rank)
  bitsLt_bf16_f32 : FTy.bits .bf16 < FTy.bits .f32
  bcast_S_S2048x512 : S_.BroadcastsInDim S2048x512 (![] : Fin 0 → Fin S2048x512.rank)
  bcast_S_S512x64 : S_.BroadcastsInDim S512x64 (![] : Fin 0 → Fin S512x64.rank)

variable [Facts]

def fn_part1 {F : FTy → Type} [FloatOps F] (main_arg1 : FVec F S512x64 .bf16) (main_v17 : IVec S8x8 1) (main_v19 : FVec F S2048x512 .f32) : IVec S8x8 1 × IVec S2048x512 1 × IVec S512x64 1 :=
  let main_cst : FVec F S_ .f32 := constant S_ .f32 0x7F800000#32
  let main_v20 : FVec F S2048x512 .f32 := broadcastInDim S2048x512 ![] bcast_S_S2048x512 main_cst
  let main_v21 : IVec S2048x512 1 := cmpf .olt main_v19 main_v20
  let main_v22 : FVec F S512x64 .f32 := (extf .f32 · bitsLt_bf16_f32) main_arg1
  let main_v23 : FVec F S512x64 .f32 := Host.absf main_v22
  let main_cst_3 : FVec F S_ .f32 := constant S_ .f32 0x7F800000#32
  let main_v24 : FVec F S512x64 .f32 := broadcastInDim S512x64 ![] bcast_S_S512x64 main_cst_3
  let main_v25 : IVec S512x64 1 := cmpf .olt main_v23 main_v24
  (main_v17, main_v21, main_v25)

def fn {F : FTy → Type} [FloatOps F] (main_arg0 : FVec F S2048x512 .bf16) (main_arg1 : FVec F S512x64 .bf16) (main_arg2 : IVec S2048x1 32) (main_arg3 : FVec F S8x512x1024 .bf16) (main_arg4 : FVec F S512x1024 .bf16) : IVec S8x8 1 × IVec S2048x512 1 × IVec S512x64 1 :=
  let main_v0 : IVec S8 32 := iotaInDim S8 32 0
  let main_v1 : IVec S1x8 32 := broadcastInDim S1x8 ![1] bcast_S8_S1x8_1 main_v0
  let main_c : IVec S_ 32 := constantI S_ 32 8#32
  let main_v2 : IVec S1x8 32 := broadcastInDim S1x8 ![] bcast_S_S1x8 main_c
  let main_v3 : IVec S1x8 32 := muli main_v2 main_v1
  let main_v4 : IVec S2048x8 32 := broadcastInDim S2048x8 ![0, 1] bcast_S2048x1_S2048x8_0_1 main_arg2
  let main_v5 : IVec S2048x8 32 := broadcastInDim S2048x8 ![0, 1] bcast_S1x8_S2048x8_0_1 main_v3
  let main_v6 : IVec S2048x8 1 := cmpi .sge main_v4 main_v5
  let main_c_0 : IVec S_ 32 := constantI S_ 32 8#32
  let main_v7 : IVec S1x8 32 := broadcastInDim S1x8 ![] bcast_S_S1x8 main_c_0
  let main_v8 : IVec S1x8 32 := addi main_v3 main_v7
  let main_v9 : IVec S2048x8 32 := broadcastInDim S2048x8 ![0, 1] bcast_S2048x1_S2048x8_0_1 main_arg2
  let main_v10 : IVec S2048x8 32 := broadcastInDim S2048x8 ![0, 1] bcast_S1x8_S2048x8_0_1 main_v8
  let main_v11 : IVec S2048x8 1 := cmpi .slt main_v9 main_v10
  let main_v12 : IVec S2048x8 1 := andi main_v6 main_v11
  let main_v13 : IVec S2048x8 32 := (extui 32 · natLt_1_32) main_v12
  let main_v14 : IVec S8x256x8 32 := shapeCast S8x256x8 main_v13 shapeCasts_S2048x8_S8x256x8
  let main_c_1 : IVec S_ 32 := constantI S_ 32 0#32
  let main_v15 : IVec S8x8 32 := (fun x v => Host.reduce IntOp.addi x v reducesTo_S8x256x8_S8x8_d1 h_S_) main_v14 main_c_1
  let main_c_2 : IVec S_ 32 := constantI S_ 32 64#32
  let main_v16 : IVec S8x8 32 := broadcastInDim S8x8 ![] bcast_S_S8x8 main_c_2
  let main_v17 : IVec S8x8 1 := cmpi .sle main_v15 main_v16
  let main_v18 : FVec F S2048x512 .f32 := (extf .f32 · bitsLt_bf16_f32) main_arg0
  let main_v19 : FVec F S2048x512 .f32 := Host.absf main_v18
  fn_part1 (F := F) main_arg1 main_v17 main_v19
-- ==== Pre_slots_suffice_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S8 : Shape := ⟨1, ![8]⟩
abbrev S1x8 : Shape := ⟨2, ![1, 8]⟩
abbrev S_ : Shape := ⟨0, ![]⟩
abbrev S2048x8 : Shape := ⟨2, ![2048, 8]⟩
abbrev S8x256x8 : Shape := ⟨3, ![8, 256, 8]⟩
abbrev S8x8 : Shape := ⟨2, ![8, 8]⟩

class Facts : Prop where
  bcast_S8_S1x8_1 : S8.BroadcastsInDim S1x8 (![1] : Fin 1 → Fin S1x8.rank)
  bcast_S_S1x8 : S_.BroadcastsInDim S1x8 (![] : Fin 0 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  natLt_1_32 : 1 < 32
  shapeCasts_S2048x8_S8x256x8 : S2048x8.ShapeCasts S8x256x8
  reducesTo_S8x256x8_S8x8_d1 : S8x256x8.ReducesTo [1] S8x8
  h_S_ : 0 < S_.numel
  bcast_S_S8x8 : S_.BroadcastsInDim S8x8 (![] : Fin 0 → Fin S8x8.rank)
  bitsLt_bf16_f32 : FTy.bits .bf16 < FTy.bits .f32
  bcast_S_S2048x512 : S_.BroadcastsInDim S2048x512 (![] : Fin 0 → Fin S2048x512.rank)
  bcast_S_S512x64 : S_.BroadcastsInDim S512x64 (![] : Fin 0 → Fin S512x64.rank)

variable [Facts]

def fn_part1 {F : FTy → Type} [FloatOps F] (main_arg1 : FVec F S512x64 .bf16) (main_v17 : IVec S8x8 1) (main_v19 : FVec F S2048x512 .f32) : IVec S8x8 1 × IVec S2048x512 1 × IVec S512x64 1 :=
  let main_cst : FVec F S_ .f32 := constant S_ .f32 0x7F800000#32
  let main_v20 : FVec F S2048x512 .f32 := broadcastInDim S2048x512 ![] bcast_S_S2048x512 main_cst
  let main_v21 : IVec S2048x512 1 := cmpf .olt main_v19 main_v20
  let main_v22 : FVec F S512x64 .f32 := (extf .f32 · bitsLt_bf16_f32) main_arg1
  let main_v23 : FVec F S512x64 .f32 := Host.absf main_v22
  let main_cst_3 : FVec F S_ .f32 := constant S_ .f32 0x7F800000#32
  let main_v24 : FVec F S512x64 .f32 := broadcastInDim S512x64 ![] bcast_S_S512x64 main_cst_3
  let main_v25 : IVec S512x64 1 := cmpf .olt main_v23 main_v24
  (main_v17, main_v21, main_v25)

def fn {F : FTy → Type} [FloatOps F] (main_arg0 : FVec F S2048x512 .bf16) (main_arg1 : FVec F S512x64 .bf16) (main_arg2 : IVec S2048x1 32) (main_arg3 : FVec F S64x512x1024 .bf16) (main_arg4 : FVec F S512x1024 .bf16) : IVec S8x8 1 × IVec S2048x512 1 × IVec S512x64 1 :=
  let main_v0 : IVec S8 32 := iotaInDim S8 32 0
  let main_v1 : IVec S1x8 32 := broadcastInDim S1x8 ![1] bcast_S8_S1x8_1 main_v0
  let main_c : IVec S_ 32 := constantI S_ 32 8#32
  let main_v2 : IVec S1x8 32 := broadcastInDim S1x8 ![] bcast_S_S1x8 main_c
  let main_v3 : IVec S1x8 32 := muli main_v2 main_v1
  let main_v4 : IVec S2048x8 32 := broadcastInDim S2048x8 ![0, 1] bcast_S2048x1_S2048x8_0_1 main_arg2
  let main_v5 : IVec S2048x8 32 := broadcastInDim S2048x8 ![0, 1] bcast_S1x8_S2048x8_0_1 main_v3
  let main_v6 : IVec S2048x8 1 := cmpi .sge main_v4 main_v5
  let main_c_0 : IVec S_ 32 := constantI S_ 32 8#32
  let main_v7 : IVec S1x8 32 := broadcastInDim S1x8 ![] bcast_S_S1x8 main_c_0
  let main_v8 : IVec S1x8 32 := addi main_v3 main_v7
  let main_v9 : IVec S2048x8 32 := broadcastInDim S2048x8 ![0, 1] bcast_S2048x1_S2048x8_0_1 main_arg2
  let main_v10 : IVec S2048x8 32 := broadcastInDim S2048x8 ![0, 1] bcast_S1x8_S2048x8_0_1 main_v8
  let main_v11 : IVec S2048x8 1 := cmpi .slt main_v9 main_v10
  let main_v12 : IVec S2048x8 1 := andi main_v6 main_v11
  let main_v13 : IVec S2048x8 32 := (extui 32 · natLt_1_32) main_v12
  let main_v14 : IVec S8x256x8 32 := shapeCast S8x256x8 main_v13 shapeCasts_S2048x8_S8x256x8
  let main_c_1 : IVec S_ 32 := constantI S_ 32 0#32
  let main_v15 : IVec S8x8 32 := (fun x v => Host.reduce IntOp.addi x v reducesTo_S8x256x8_S8x8_d1 h_S_) main_v14 main_c_1
  let main_c_2 : IVec S_ 32 := constantI S_ 32 64#32
  let main_v16 : IVec S8x8 32 := broadcastInDim S8x8 ![] bcast_S_S8x8 main_c_2
  let main_v17 : IVec S8x8 1 := cmpi .sle main_v15 main_v16
  let main_v18 : FVec F S2048x512 .f32 := (extf .f32 · bitsLt_bf16_f32) main_arg0
  let main_v19 : FVec F S2048x512 .f32 := Host.absf main_v18
  fn_part1 (F := F) main_arg1 main_v17 main_v19
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S256x1024 : Shape := ⟨2, ![256, 1024]⟩
abbrev S4096x1024 : Shape := ⟨2, ![4096, 1024]⟩
abbrev S7x64x1024 : Shape := ⟨3, ![7, 64, 1024]⟩
abbrev S7 : Shape := ⟨1, ![7]⟩
abbrev S_ : Shape := ⟨0, ![]⟩
abbrev S2048x64 : Shape := ⟨2, ![2048, 64]⟩
abbrev S2048 : Shape := ⟨1, ![2048]⟩
abbrev S256x256 : Shape := ⟨2, ![256, 256]⟩
abbrev S256x64 : Shape := ⟨2, ![256, 64]⟩
abbrev S256x1 : Shape := ⟨2, ![256, 1]⟩
abbrev S256x512 : Shape := ⟨2, ![256, 512]⟩
abbrev S64x512 : Shape := ⟨2, ![64, 512]⟩
abbrev S256x8 : Shape := ⟨2, ![256, 8]⟩
abbrev S64x8 : Shape := ⟨2, ![64, 8]⟩
abbrev S64x8x1 : Shape := ⟨3, ![64, 8, 1]⟩
abbrev S64x1x512 : Shape := ⟨3, ![64, 1, 512]⟩
abbrev S64x8x512 : Shape := ⟨3, ![64, 8, 512]⟩
abbrev S64x4096 : Shape := ⟨2, ![64, 4096]⟩
abbrev S64x1024 : Shape := ⟨2, ![64, 1024]⟩
abbrev S1x64x1024 : Shape := ⟨3, ![1, 64, 1024]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S8x512x1024, .bf16⟩
  | .hbm, ⟨4, _⟩ => ⟨S512x1024, .bf16⟩
  | .hbm, ⟨5, _⟩ => ⟨S256x1024, .f32⟩
  | .local _ .vmem, ⟨0, _⟩ => ⟨S2048x512, .bf16⟩
  | .local _ .vmem, ⟨1, _⟩ => ⟨S512x64, .bf16⟩
  | .local _ .vmem, ⟨2, _⟩ => ⟨S2048x1, .i32⟩
  | .local _ .vmem, ⟨3, _⟩ => ⟨S8x512x1024, .bf16⟩
  | .local _ .vmem, ⟨4, _⟩ => ⟨S512x1024, .bf16⟩
  | .local _ .vmem, ⟨5, _⟩ => ⟨S256x1024, .f32⟩
  | .local _ .vmem, ⟨6, _⟩ => ⟨S4096x1024, .bf16⟩
  | .local _ .vmem, ⟨7, _⟩ => ⟨S2048x1, .f32⟩
  | .local _ .vmem, ⟨8, _⟩ => ⟨S7x64x1024, .bf16⟩
  | .local _ .vmem, ⟨9, _⟩ => ⟨S7x64x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_46 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v73 : BitVec 32 := Scalar.addi v2 c1_i32_46
  let c8_i32_47 : BitVec 32 := 8#32
  let v74 : BitVec 32 := Scalar.remsi v73 c8_i32_47
  let c256_i32_48 : BitVec 32 := 256#32
  let v76 : BitVec 32 := Scalar.muli v74 c256_i32_48
  let v77 : Index := Scalar.indexCast v76
  let c0_49 : Index := 0#32
  ![v77.toNat, 0]
def k0_off2 (d0 : Dev nD) (c1_i32_46 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v73 : BitVec 32 := Scalar.addi v2 c1_i32_46
  let c8_i32_47 : BitVec 32 := 8#32
  let v74 : BitVec 32 := Scalar.remsi v73 c8_i32_47
  let c256_i32 : BitVec 32 := 256#32
  let v75 : BitVec 32 := Scalar.muli v74 c256_i32
  let v119 : Index := Scalar.indexCast v75
  let c0_59 : Index := 0#32
  ![v119.toNat, 0]
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v73 : BitVec 32 := Scalar.addi v2 c1_i32_46
  let c8_i32_47 : BitVec 32 := 8#32
  let v74 : BitVec 32 := Scalar.remsi v73 c8_i32_47
  let c1_i32_77 : BitVec 32 := 1#32
  let v155 : BitVec 32 := Scalar.muli v74 c1_i32_77
  let v156 : BitVec 32 := Scalar.addi c0_i32_78 v155
  v156.toNat
def k0_dev9 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v165 : BitVec 32 := Scalar.addi v2 c2_i32_83
  let c8_i32_84 : BitVec 32 := 8#32
  let v166 : BitVec 32 := Scalar.remsi v165 c8_i32_84
  let c1_i32_114 : BitVec 32 := 1#32
  let v247 : BitVec 32 := Scalar.muli v166 c1_i32_114
  let v248 : BitVec 32 := Scalar.addi c0_i32_115 v247
  v248.toNat
def k0_dev10 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_120 : BitVec 32 := 3#32
  let v257 : BitVec 32 := Scalar.addi v2 c3_i32_120
  let c8_i32_121 : BitVec 32 := 8#32
  let v258 : BitVec 32 := Scalar.remsi v257 c8_i32_121
  let c1_i32_151 : BitVec 32 := 1#32
  let v339 : BitVec 32 := Scalar.muli v258 c1_i32_151
  let v340 : BitVec 32 := Scalar.addi c0_i32_152 v339
  v340.toNat
def k0_dev11 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_157 : BitVec 32 := 4#32
  let v349 : BitVec 32 := Scalar.addi v2 c4_i32_157
  let c8_i32_158 : BitVec 32 := 8#32
  let v350 : BitVec 32 := Scalar.remsi v349 c8_i32_158
  let c1_i32_188 : BitVec 32 := 1#32
  let v431 : BitVec 32 := Scalar.muli v350 c1_i32_188
  let v432 : BitVec 32 := Scalar.addi c0_i32_189 v431
  v432.toNat
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_194 : BitVec 32 := 5#32
  let v441 : BitVec 32 := Scalar.addi v2 c5_i32_194
  let c8_i32_195 : BitVec 32 := 8#32
  let v442 : BitVec 32 := Scalar.remsi v441 c8_i32_195
  let c1_i32_225 : BitVec 32 := 1#32
  let v523 : BitVec 32 := Scalar.muli v442 c1_i32_225
  let v524 : BitVec 32 := Scalar.addi c0_i32_226 v523
  v524.toNat
def k0_dev13 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_231 : BitVec 32 := 6#32
  let v533 : BitVec 32 := Scalar.addi v2 c6_i32_231
  let c8_i32_232 : BitVec 32 := 8#32
  let v534 : BitVec 32 := Scalar.remsi v533 c8_i32_232
  let c1_i32_262 : BitVec 32 := 1#32
  let v615 : BitVec 32 := Scalar.muli v534 c1_i32_262
  let v616 : BitVec 32 := Scalar.addi c0_i32_263 v615
  v616.toNat
def k0_dev14 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_268 : BitVec 32 := 7#32
  let v625 : BitVec 32 := Scalar.addi v2 c7_i32_268
  let c8_i32_269 : BitVec 32 := 8#32
  let v626 : BitVec 32 := Scalar.remsi v625 c8_i32_269
  let c1_i32_299 : BitVec 32 := 1#32
  let v707 : BitVec 32 := Scalar.muli v626 c1_i32_299
  let v708 : BitVec 32 := Scalar.addi c0_i32_300 v707
  v708.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_305 : BitVec 32 := 256#32
  let v717 : BitVec 32 := Scalar.muli v2 c256_i32_305
  let v718 : Index := Scalar.indexCast v717
  let c0_306 : Index := 0#32
  ![v718.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_310 : BitVec 32 := 256#32
  let v724 : BitVec 32 := Scalar.muli v2 c256_i32_310
  let v725 : Index := Scalar.indexCast v724
  let c0_311 : Index := 0#32
  ![v725.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S2048x64 : Shape := ⟨2, ![2048, 64]⟩
abbrev S_ : Shape := ⟨0, ![]⟩
abbrev S2048 : Shape := ⟨1, ![2048]⟩
abbrev S2048x1024 : Shape := ⟨2, ![2048, 1024]⟩
abbrev S2048x64x1024 : Shape := ⟨3, ![2048, 64, 1024]⟩
abbrev S64 : Shape := ⟨1, ![64]⟩
abbrev S1x64 : Shape := ⟨2, ![1, 64]⟩
abbrev S2048x64x1 : Shape := ⟨3, ![2048, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S64x512x1024, .bf16⟩
  | .hbm, ⟨4, _⟩ => ⟨S512x1024, .bf16⟩
  | .hbm, ⟨5, _⟩ => ⟨S2048x512, .f32⟩
  | .hbm, ⟨6, _⟩ => ⟨S512x64, .f32⟩
  | .hbm, ⟨7, _⟩ => ⟨S2048x64, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x64, .f32⟩
  | .hbm, ⟨18, _⟩ => ⟨S2048x64, .f32⟩
  | .hbm, ⟨19, _⟩ => ⟨S512x1024, .f32⟩
  | .hbm, ⟨20, _⟩ => ⟨S2048x1024, .f32⟩
  | .hbm, ⟨21, _⟩ => ⟨S64x512x1024, .f32⟩
  | .hbm, ⟨22, _⟩ => ⟨S2048x64x1024, .f32⟩
  | .hbm, ⟨23, _⟩ => ⟨S64, .i32⟩
  | .hbm, ⟨24, _⟩ => ⟨S1x64, .i32⟩
  | .hbm, ⟨25, _⟩ => ⟨S2048x64, .i32⟩
  | .hbm, ⟨26, _⟩ => ⟨S2048x64, .i32⟩
  | .hbm, ⟨27, _⟩ => ⟨S2048x64, .i1⟩
  | .hbm, ⟨28, _⟩ => ⟨S2048x64x1, .i1⟩
  | .hbm, ⟨29, _⟩ => ⟨S2048x64x1, .f32⟩
  | .hbm, ⟨30, _⟩ => ⟨S2048x64x1024, .f32⟩
  | .hbm, ⟨31, _⟩ => ⟨S2048x64x1024, .f32⟩
  | .hbm, ⟨32, _⟩ => ⟨S_, .f32⟩
  | .hbm, ⟨33, _⟩ => ⟨S_, .f32⟩
  | .hbm, ⟨34, _⟩ => ⟨S2048x64x1024, .i1⟩
  | .hbm, ⟨35, _⟩ => ⟨S2048x64x1024, .f32⟩
  | .hbm, ⟨36, _⟩ => ⟨S2048x64x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.IVals.lean ====
/-
The contents the kernel computes, named: what each device holds in its converted weights and its
routing probabilities, what it stages for each of the other seven devices, and its result from
the seven blocks that land on it. Every name is a composition of the payloads of the program's
skeleton; nothing is computed here.
-/
module

public import proofs.«01_k».proof.Proof.Gen.KernelIdeal
public import proofs.«01_k».proof.Proof.Gen.KernelIdeal.Skeleton

@[expose] public section

set_option maxRecDepth 16384

noncomputable section

namespace Cert.KernelIdeal.Moe

open Cert.KernelIdeal Cert.KernelIdeal.Gen
open Idealize.ShloMosaic Idealize.ShloMosaic.TcCoe

variable {F : FTy → Type} [FloatOps F]

/-- The staged arguments and scratch buffers the body reads. -/
abbrev xM : Memref sig .tc .vmem S2048x512 .bf16 := Memref.whole cc0_stg0_0
abbrev rwM : Memref sig .tc .vmem S512x64 .bf16 := Memref.whole cc0_stg1_0
abbrev idM : Memref sig .tc .vmem S2048x1 .i32 := Memref.whole cc0_stg2_0
abbrev ewM : Memref sig .tc .vmem S8x512x1024 .bf16 := Memref.whole cc0_stg3_0
abbrev swM : Memref sig .tc .vmem S512x1024 .bf16 := Memref.whole cc0_stg4_0
abbrev outM : Memref sig .tc .vmem S256x1024 .f32 := Memref.whole cc0_stg5_0
abbrev wM : Memref sig .tc .vmem S4096x1024 .bf16 := Memref.whole cc0_scratch0
abbrev pM : Memref sig .tc .vmem S2048x1 .f32 := Memref.whole cc0_scratch1
abbrev sM : Memref sig .tc .vmem S7x64x1024 .bf16 := Memref.whole cc0_scratch2
abbrev rM : Memref sig .tc .vmem S7x64x1024 .bf16 := Memref.whole cc0_scratch3

/-- The device's own number, as the kernel computes it. -/
abbrev me (c : Dev nD) : BitVec 32 := Scalar.remsi (Scalar.divsi (Dev.word c) 1#32) 8#32

/-- The converted weights. -/
def wV (ew : Vec F S8x512x1024 .bf16) : Vec F S4096x1024 .bf16 := k0_pay1 ew
/-- Each token's routing probability. -/
def pV (x : Vec F S2048x512 .bf16) (rw : Vec F S512x64 .bf16) (idx : Vec F S2048x1 .i32) : Vec F S2048x1 .f32 :=
  k0_pay6 (k0_pay2 x rw) (k0_pay3 x rw) (k0_pay4 idx) k0_pay5

/-- The block of tokens of the device `1 + j` places after `c`. -/
abbrev xRow (c : Dev nD) (j : Fin 7) (x : Vec F S2048x512 .bf16) : Vec F S256x512 .bf16 :=
  xM.view.readAt (Elt F) (Rect.unit (s := S2048x512) (k0_off2 c (BitVec.ofNat 32 (1 + j.val))) S256x512.size (k0_off2_inb c j)).toLoadRect x
abbrev iRow (c : Dev nD) (j : Fin 7) (idx : Vec F S2048x1 .i32) : Vec F S256x1 .i32 :=
  idM.view.readAt (Elt F) (Rect.unit (s := S2048x1) (k0_off1 c (BitVec.ofNat 32 (1 + j.val))) S256x1.size (k0_off1_inb c j)).toLoadRect idx
abbrev pRow (c : Dev nD) (j : Fin 7) (p : Vec F S2048x1 .f32) : Vec F S256x1 .f32 :=
  pM.view.readAt (Elt F) (Rect.unit (s := S2048x1) (k0_off1 c (BitVec.ofNat 32 (1 + j.val))) S256x1.size (k0_off1_inb c j)).toLoadRect p
/-- The device's own block of tokens. -/
abbrev xOwn (c : Dev nD) (x : Vec F S2048x512 .bf16) : Vec F S256x512 .bf16 :=
  xM.view.readAt (Elt F) (Rect.unit (s := S2048x512) (k0_off3 c) S256x512.size (k0_off3_inb c)).toLoadRect x
abbrev iOwn (c : Dev nD) (idx : Vec F S2048x1 .i32) : Vec F S256x1 .i32 :=
  idM.view.readAt (Elt F) (Rect.unit (s := S2048x1) (k0_off4 c) S256x1.size (k0_off4_inb c)).toLoadRect idx
abbrev pOwn (c : Dev nD) (p : Vec F S2048x1 .f32) : Vec F S256x1 .f32 :=
  pM.view.readAt (Elt F) (Rect.unit (s := S2048x1) (k0_off4 c) S256x1.size (k0_off4_inb c)).toLoadRect p

/-- What device `c` stages for the device `1 + j` places after it, from the block `x`, `i`, `p` of that device's tokens. -/
def stgOf (v2 : BitVec 32) (j : Fin 7) (x : Vec F S256x512 .bf16) (i : Vec F S256x1 .i32) (p : Vec F S256x1 .f32)
    (w : Vec F S4096x1024 .bf16) : FVec F S1x64x1024 .bf16 :=
  match j with
  | 0 => k0_pay14 (k0_pay13 v2 k0_pay7 k0_pay8 (k0_pay10 i) (k0_pay11 i) (k0_pay12 i) x i p) w
  | 1 => k0_pay22 (k0_pay18 v2 k0_pay7 k0_pay8 (k0_pay15 i) 8#32 (k0_pay16 i) (k0_pay17 i) (Scalar.cmpi .sgt 8#32 0#32))
      (k0_pay19 v2 k0_pay7 k0_pay8 (k0_pay15 i) 8#32 (k0_pay16 i) (k0_pay17 i) (Scalar.cmpi .sgt 8#32 0#32) x) (k0_pay20 v2 i)
      (Scalar.ofBits .f32 0#32) (k0_pay21 p) w
  | 2 => k0_pay28 v2 (k0_pay25 v2 k0_pay7 k0_pay8 (k0_pay23 i) 8#32 k0_pay24) (k0_pay26 v2 k0_pay7 k0_pay8 (k0_pay23 i) 8#32 k0_pay24 x)
      (k0_pay27 i) p w
  | 3 => k0_pay30 v2 (k0_pay29 v2 k0_pay7 k0_pay8 i) x i p w
  | 4 => k0_pay33 v2 k0_pay8 (k0_pay31 v2 i) (k0_pay32 v2 k0_pay7 i) x i p w
  | 5 => k0_pay39 (k0_pay38 v2 k0_pay7 k0_pay8 (k0_pay35 i) (k0_pay36 i) (k0_pay37 i) x i p) w
  | 6 => k0_pay47 (k0_pay43 v2 k0_pay7 k0_pay8 (k0_pay40 i) 8#32 (k0_pay41 i) (k0_pay42 i) (Scalar.cmpi .sgt 8#32 0#32))
      (k0_pay44 v2 k0_pay7 k0_pay8 (k0_pay40 i) 8#32 (k0_pay41 i) (k0_pay42 i) (Scalar.cmpi .sgt 8#32 0#32) x) (k0_pay45 v2 i)
      (Scalar.ofBits .f32 0#32) (k0_pay46 p) w

/-- The same from the whole arrays. -/
def stgV (c : Dev nD) (j : Fin 7) (x : Vec F S2048x512 .bf16) (idx : Vec F S2048x1 .i32) (p : Vec F S2048x1 .f32)
    (w : Vec F S4096x1024 .bf16) : FVec F S1x64x1024 .bf16 :=
  stgOf (me c) j (xRow c j x) (iRow c j idx) (pRow c j p) w

/-- The device's result from its own block of tokens and the seven landed blocks. -/
def outOf (v2 : BitVec 32) (x : Vec F S256x512 .bf16) (i : Vec F S256x1 .i32) (p : Vec F S256x1 .f32) (sw : Vec F S512x1024 .bf16)
    (w : Vec F S4096x1024 .bf16) (r : Fin 7 → Vec F S1x64x1024 .bf16) : FVec F S256x1024 .f32 :=
  k0_pay67 (k0_pay63 k0_pay7 k0_pay8 (k0_pay50 i) (k0_pay62 v2))
    (k0_pay66
      (k0_pay59 (k0_pay57 (F := F) v2 (k0_pay50 i)) (k0_pay58 (F := F) v2 k0_pay7 k0_pay8 (k0_pay50 i)) (Scalar.ofBits .bf16 0#16))
      (k0_pay60 v2 k0_pay7 k0_pay8 (k0_pay50 i)) (k0_pay61 v2 k0_pay7 k0_pay8 (k0_pay50 i))
      (k0_pay65 (k0_pay55 k0_pay7 k0_pay8 (k0_pay50 i) (Scalar.addi v2 8#32)) (k0_pay56 v2 k0_pay7 k0_pay8 (k0_pay50 i))
        (k0_pay64
          (k0_pay53 v2 (k0_pay49 x sw) (k0_pay51 v2 k0_pay7 k0_pay8 i) (k0_pay52 v2 k0_pay7 k0_pay8 (k0_pay48 x) i) i p w)
          (k0_pay54 v2 k0_pay7 k0_pay8 (k0_pay50 i)) (r 0))
        (r 1) (r 2))
      (r 3) (r 4) (r 5))
    (r 6)

def outV (c : Dev nD) (x : Vec F S2048x512 .bf16) (idx : Vec F S2048x1 .i32) (sw : Vec F S512x1024 .bf16) (p : Vec F S2048x1 .f32)
    (w : Vec F S4096x1024 .bf16) (r : Fin 7 → Vec F S1x64x1024 .bf16) : FVec F S256x1024 .f32 :=
  outOf (me c) (xOwn c x) (iOwn c idx) (pOwn c p) sw w r

end Cert.KernelIdeal.Moe

end
-- ==== Proof.IProto.lean ====
/-
How the eight devices pass blocks to one another, as a schedule of duties. Every device raises the
entry semaphore of each of the other seven and waits for seven units on its own; a unit from a
device brings the slot of that device's landing buffer into which this device will copy. Then it
stages a block for each of the others in turn and copies it into that slot, with one semaphore of
its own for the departure and one of the destination's for the arrival. An arrival hands over the
slot holding the block that the sender staged; a departure hands the staging slot back.
-/
module

public import proofs.«01_k».proof.Proof.IVals
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def mem₀ : MemSt nD τ sig (Elt F) := ⟨m, fun _ => 0, ρ⟩

/-! ## Which device is which -/

/-- The device `j + 1` places after `c`, and the one `j + 1` places before it. -/
def up (j : Fin 7) (c : Dev nD) : Dev nD := ⟨(c.val + (j.val + 1)) % 8, Nat.mod_lt _ (by decide)⟩
def dn (j : Fin 7) (c : Dev nD) : Dev nD := ⟨(c.val + (7 - j.val)) % 8, Nat.mod_lt _ (by decide)⟩

theorem dn_up (j : Fin 7) (c : Dev nD) : dn j (up j c) = c := by
  apply Fin.ext; simp only [up, dn]; have := c.isLt; have := j.isLt; have : nD = 8 := rfl; omega
theorem up_dn (j : Fin 7) (c : Dev nD) : up j (dn j c) = c := by
  apply Fin.ext; simp only [up, dn]; have := c.isLt; have := j.isLt; have : nD = 8 := rfl; omega

def around (j : Fin 7) : Dev nD ≃ Dev nD := ⟨up j, dn j, dn_up j, up_dn j⟩

/-! ## Slots and semaphores -/

theorem inbSlot (j : Fin 7) : ∀ a, (![j.val, 0, 0] : Fin 3 → ℕ) a + S1x64x1024.size a ≤ S7x64x1024.size a := by
  revert j; decide
abbrev slotR (j : Fin 7) : Rect S7x64x1024 := Rect.unit (s := S7x64x1024) ![j.val, 0, 0] S1x64x1024.size (inbSlot j)
abbrev sSl (j : Fin 7) : Memref sig .tc .vmem S1x64x1024 .bf16 := sM.slice (slotR j) (fun _ => rfl)
abbrev rSl (j : Fin 7) : Memref sig .tc .vmem S1x64x1024 .bf16 := rM.slice (slotR j) (fun _ => rfl)
abbrev sSq (j : Fin 7) : Memref sig .tc .vmem S64x1024 .bf16 := (sSl j).squeeze S64x1024 squeezes_S1x64x1024_S64x1024
abbrev rSq (j : Fin 7) : Memref sig .tc .vmem S64x1024 .bf16 := (rSl j).squeeze S64x1024 squeezes_S1x64x1024_S64x1024

abbrev barS : Sem sig := (SemArray.scalar (sig.barrier 0 rfl) : Sems sig S_).sem
abbrev sendS (j : Fin 7) : DmaSem sig := ⟨6 + j.val, by have := j.isLt; show 6 + j.val < 20; omega⟩
abbrev recvS (j : Fin 7) : DmaSem sig := ⟨13 + j.val, by have := j.isLt; show 13 + j.val < 20; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The kernel's own semaphores: the seven of the departures, then the seven of the arrivals; -/
abbrev osem (k : Fin 14) : SemLoc sig := .dma ⟨6 + k.val, by have := k.isLt; show 6 + k.val < 20; omega⟩
/-- and with the entry semaphore last. -/
abbrev csem (k : Fin 15) : SemLoc sig := if h : k.val < 14 then osem ⟨k.val, h⟩ else .reg barS
abbrev kcell (ck : Dev nD × Fin 15) : GSem nD τ sig := ((ck.1 : Thread nD τ), csem ck.2)
abbrev kS (j : Fin 7) : Fin 15 := ⟨j.val, by omega⟩
abbrev kR (j : Fin 7) : Fin 15 := ⟨7 + j.val, by omega⟩
abbrev kB : Fin 15 := 14

theorem kcell_S (c : Dev nD) (j : Fin 7) : kcell (c, kS j) = sendCell c j := by
  have h : j.val < 14 := by omega
  simp only [kcell, csem, kS, h, dif_pos]
theorem kcell_R (c : Dev nD) (j : Fin 7) : kcell (c, kR j) = recvCell c j := by
  have h : 7 + j.val < 14 := by omega
  simp only [kcell, csem, kR, h, dif_pos, recvCell, Prod.mk.injEq, true_and, SemLoc.dma.injEq]
  apply Fin.ext; show 6 + (7 + j.val) = 13 + j.val; omega
theorem kcell_B (c : Dev nD) : kcell (c, kB) = barCell c := rfl

/-- The credit of one block's copy. -/
abbrev N : ℕ := (rSq 0).view.dmaCredit
theorem N_pos : 0 < N := View.dmaCredit_pos _ (by decide)
theorem N_eq (j : Fin 7) : (rSq j).view.dmaCredit = N := rfl

/-! ## The contents -/

/-- The staged arguments on device `c`. -/
def ax (c : Dev nD) : Vec F S2048x512 .bf16 := (win0_0.blk (0 : Fin 1)).view.read (Elt F) ((mem₀ m ρ).mem ((c : Thread nD τ).loc main_arg0))
def arw (c : Dev nD) : Vec F S512x64 .bf16 := (win0_1.blk (0 : Fin 1)).view.read (Elt F) ((mem₀ m ρ).mem ((c : Thread nD τ).loc main_arg1))
def aid (c : Dev nD) : Vec F S2048x1 .i32 := (win0_2.blk (0 : Fin 1)).view.read (Elt F) ((mem₀ m ρ).mem ((c : Thread nD τ).loc main_arg2))
def aew (c : Dev nD) : Vec F S8x512x1024 .bf16 := (win0_3.blk (0 : Fin 1)).view.read (Elt F) ((mem₀ m ρ).mem ((c : Thread nD τ).loc main_arg3))
def asw (c : Dev nD) : Vec F S512x1024 .bf16 := (win0_4.blk (0 : Fin 1)).view.read (Elt F) ((mem₀ m ρ).mem ((c : Thread nD τ).loc main_arg4))

/-- The converted weights and the probabilities on device `c`. -/
def aw (c : Dev nD) : Vec F S4096x1024 .bf16 := wV (aew m ρ c)
def ap (c : Dev nD) : Vec F S2048x1 .f32 := pV (ax m ρ c) (arw m ρ c) (aid m ρ c)
/-- What device `c` stages for the device `j + 1` places after it. -/
def stgAt (c : Dev nD) (j : Fin 7) : Vec F S1x64x1024 .bf16 := stgV c j (ax m ρ c) (aid m ρ c) (ap m ρ c) (aw m ρ c)
/-- What lands in slot `j` of device `c`. -/
def landAt (c : Dev nD) (j : Fin 7) : Vec F S1x64x1024 .bf16 := stgAt m ρ (dn j c) j
/-- The result on device `c`. -/
def outAt (c : Dev nD) : Vec F S256x1024 .f32 :=
  outV c (ax m ρ c) (aid m ρ c) (asw m ρ c) (ap m ρ c) (aw m ρ c) (landAt m ρ c)

/-- Slot `j` of a staging buffer, of a landing buffer, at contents `X`. -/
def sOwn (c : Dev nD) (j : Fin 7) (X : Vec F S1x64x1024 .bf16) : sProp 𝕄 := owns (c : Thread nD τ) (sSl j) fullShare X
def rOwn (c : Dev nD) (j : Fin 7) (X : Vec F S1x64x1024 .bf16) : sProp 𝕄 := owns (c : Thread nD τ) (rSl j) fullShare X

omit [FloatOps F] in
instance sOwn_storable (c : Dev nD) (j) (X) : BI.Storable (upEmb : UEmb _ 𝕄) (sOwn (F := F) c j X) := by unfold sOwn; infer_instance
omit [FloatOps F] in
instance rOwn_storable (c : Dev nD) (j) (X) : BI.Storable (upEmb : UEmb _ 𝕄) (rOwn (F := F) c j X) := by unfold rOwn; infer_instance

/-! ## The schedule -/

/-- The unit from the device `j + 1` places after `c` brings slot `j` of its landing buffer, and that its arrival
    semaphore for the slot is at the start of its round. -/
def barPay (c : Dev nD) (j : Fin 7) : sProp 𝕄 := iprop((∃ X, rOwn (up j c) j X) ∗ reached ER (recvCell (up j c) j) 0)

/-- The one round of a semaphore: seven duties on the entry semaphore, one on each of the fourteen others. -/
def cellDuties : SemLoc sig → Finset (Fin 7)
  | .reg s => if s = barS then Finset.univ else ∅
  | .dma q => if 6 ≤ q.val then {0} else ∅

def cellPay (c : Dev nD) (d : Fin 7) : SemLoc sig → sProp 𝕄
  | .reg _ => barPay c d
  | .dma q => if h : 13 ≤ q.val then rOwn c ⟨q.val - 13, by have := q.isLt; have : sig.nDmaSem = 20 := rfl; omega⟩
        (landAt m ρ c ⟨q.val - 13, by have := q.isLt; have : sig.nDmaSem = 20 := rfl; omega⟩)
      else if h' : 6 ≤ q.val then sOwn c ⟨q.val - 6, by omega⟩ (stgAt m ρ c ⟨q.val - 6, by omega⟩)
      else iprop(emp)

def Rd : Rounds.Schedule (GSem nD τ sig) (Fin 7) 𝕄 where
  duties g r := if r = 0 ∧ g.1.2 = .tc then cellDuties g.2 else ∅
  unitless _ := False
  amount g _ _ := if g.2 = .reg barS then 1 else N
  payload g _ d := cellPay m ρ g.1.1 d g.2
  amount_pos g _ _ _ := by
    by_cases h : g.2 = .reg barS
    · rw [if_pos h]; exact Nat.one_pos
    · rw [if_neg h]; exact N_pos

instance Rd_storable (g : GSem nD τ sig) (r : ℕ) (d : Fin 7) :
    BI.Storable (upEmb : UEmb _ 𝕄) ((Rd (F := F) m ρ).payload g r d) := by
  show BI.Storable upEmb (cellPay m ρ g.1.1 d g.2)
  unfold cellPay barPay
  (repeat' split) <;> infer_instance

section Sched
variable (c : Dev nD) (j d : Fin 7)

theorem dma_ne_bar (q : DmaSem sig) : (SemLoc.dma q : SemLoc sig) ≠ .reg barS := fun h => by cases h

theorem duties_bar : (Rd (F := F) m ρ).duties (barCell c) 0 = Finset.univ := by
  dsimp only [Rd]; rw [if_pos ⟨rfl, rfl⟩]; dsimp only [cellDuties]; exact if_pos rfl
theorem duties_send : (Rd (F := F) m ρ).duties (sendCell c j) 0 = {0} := by
  dsimp only [Rd]; rw [if_pos ⟨rfl, rfl⟩]; dsimp only [cellDuties]; exact if_pos (by omega)
theorem duties_recv : (Rd (F := F) m ρ).duties (recvCell c j) 0 = {0} := by
  dsimp only [Rd]; rw [if_pos ⟨rfl, rfl⟩]; dsimp only [cellDuties]; exact if_pos (by omega)
theorem duties_later (g : GSem nD τ sig) : ∀ r, 1 ≤ r → (Rd (F := F) m ρ).duties g r = ∅ :=
  fun r hr => by dsimp only [Rd]; rw [if_neg fun h => by omega]

theorem amount_bar : (Rd (F := F) m ρ).amount (barCell c) 0 d = 1 := by dsimp only [Rd]; exact if_pos rfl
theorem amount_send : (Rd (F := F) m ρ).amount (sendCell c j) 0 d = N := by dsimp only [Rd]; exact if_neg (dma_ne_bar _)
theorem amount_recv : (Rd (F := F) m ρ).amount (recvCell c j) 0 d = N := by dsimp only [Rd]; exact if_neg (dma_ne_bar _)

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c j) 0 = N := by
  unfold Schedule.expect Schedule.amountOf; rw [duties_send, Finset.sum_singleton, amount_send]
theorem expect_recv : (Rd (F := F) m ρ).expect (recvCell c j) 0 = N := by
  unfold Schedule.expect Schedule.amountOf; rw [duties_recv, Finset.sum_singleton, amount_recv]

theorem payload_bar : (Rd (F := F) m ρ).payload (barCell c) 0 d = barPay c d := rfl
theorem payload_send : (Rd (F := F) m ρ).payload (sendCell c j) 0 d = sOwn c j (stgAt m ρ c j) := by
  have e : (⟨6 + j.val - 6, by omega⟩ : Fin 7) = j := Fin.ext (Nat.add_sub_cancel_left 6 j.val)
  show cellPay m ρ c d (.dma (sendS j)) = _
  dsimp only [cellPay]
  rw [dif_neg (by omega), dif_pos (by omega)]
  rw [e]
theorem payload_recv : (Rd (F := F) m ρ).payload (recvCell c j) 0 d = rOwn c j (landAt m ρ c j) := by
  have e : (⟨13 + j.val - 13, by omega⟩ : Fin 7) = j := Fin.ext (Nat.add_sub_cancel_left 13 j.val)
  show cellPay m ρ c d (.dma (recvS j)) = _
  dsimp only [cellPay]
  rw [dif_pos (by omega)]
  rw [e]

theorem rest_bar : bigSep ((Rd (F := F) m ρ).duties (barCell c) 0 \ ∅) (fun d => (Rd (F := F) m ρ).payload (barCell c) 0 d)
    = bigSep Finset.univ fun d => barPay c d := by
  rw [Finset.sdiff_empty, duties_bar]; rfl
theorem rest_send : bigSep ((Rd (F := F) m ρ).duties (sendCell c j) 0 \ ∅) (fun d => (Rd (F := F) m ρ).payload (sendCell c j) 0 d)
    = sOwn c j (stgAt m ρ c j) := by
  rw [Finset.sdiff_empty, duties_send, bigSep_singleton, payload_send]
theorem rest_recv : bigSep ((Rd (F := F) m ρ).duties (recvCell c j) 0 \ ∅) (fun d => (Rd (F := F) m ρ).payload (recvCell c j) 0 d)
    = rOwn c j (landAt m ρ c j) := by
  rw [Finset.sdiff_empty, duties_recv, bigSep_singleton, payload_recv]

end Sched

/-! ## What each device owes, and the levels -/

/-- What device `c` owes while the copies of `l` are still to be made. -/
def oweR (c : Dev nD) : List (Fin 7) → CellTallies nD τ sig Unit
  | [] => 0
  | j :: l => oweR c l + tallyAt (recvCell (up j c) j) () N
abbrev all7 : List (Fin 7) := [0, 1, 2, 3, 4, 5, 6]
/-- What it owes while the signals of `l` are still to be made, and every copy. -/
def oweS (c : Dev nD) : List (Fin 7) → CellTallies nD τ sig Unit
  | [] => oweR c all7
  | j :: l => oweS c l + tallyAt (barCell (dn j c)) () 1
abbrev O₀ (c : Dev nD) : CellTallies nD τ sig Unit := oweS c [6, 5, 4, 3, 2, 1, 0]

def L (g : GSem nD τ sig) : Finset Unit := if g.1.2 = .tc then {()} else ∅
/-- The entry semaphore below the arrivals, everything else below it. -/
def lvS : SemLoc sig → ℕ
  | .reg _ => 1
  | .dma q => if 13 ≤ q.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 7) : lv (recvCell c j) () = 2 := by
  show lvS (.dma (recvS j)) = 2
  dsimp only [lvS]; exact if_pos (by omega)
theorem lv_bar (c : Dev nD) : lv (barCell c) () = 1 := rfl

theorem oweR_pos {c : Dev nD} {g : GSem nD τ sig} {u : Unit} : ∀ {l : List (Fin 7)}, 0 < oweR c l g u → ∃ j, g = recvCell (up j c) j
  | [], h => absurd h (Nat.lt_irrefl 0)
  | j :: l, h => by
    unfold oweR at h
    rw [Pi.add_apply, Finsupp.add_apply, tallyAt_apply] at h
    by_cases h' : g = recvCell (up j c) j ∧ u = ()
    · exact ⟨j, h'.1⟩
    · rw [if_neg h', Nat.add_zero] at h; exact oweR_pos h
theorem oweS_pos {c : Dev nD} {g : GSem nD τ sig} {u : Unit} :
    ∀ {l : List (Fin 7)}, 0 < oweS c l g u → (∃ j, g = recvCell (up j c) j) ∨ ∃ j, g = barCell (dn j c)
  | [], h => Or.inl (oweR_pos h)
  | j :: l, h => by
    unfold oweS at h
    rw [Pi.add_apply, Finsupp.add_apply, tallyAt_apply] at h
    by_cases h' : g = barCell (dn j c) ∧ u = ()
    · exact Or.inr ⟨j, h'.1⟩
    · rw [if_neg h', Nat.add_zero] at h; exact oweS_pos h

theorem mayWait_stage (c : Dev nD) (q : DmaSem sig) (hq : q.val < 13) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweS_pos hg with ⟨j, rfl⟩ | ⟨j, rfl⟩ <;> exact Finset.mem_singleton_self _)
      (fun p hp => by rw [Finset.mem_singleton.mp hp]; show lvS (.dma q) ≤ 0; dsimp only [lvS]; rw [if_neg (by omega)])
      (fun g u hg => by
        rcases oweS_pos hg with ⟨j, rfl⟩ | ⟨j, rfl⟩
        · show 0 < lv (recvCell _ j) (); rw [lv_recv]; decide
        · show 0 < lv (barCell _) (); rw [lv_bar]; decide)
  · rw [MayWait_zero]; iintro -; iempintro

theorem mayWait_bar (c : Dev nD) : (levAts L lv : sProp 𝕄) ⊢ MayWait (c : Thread nD τ) (.reg barS) () (oweR c all7) :=
  MayOwe.of_cut (L := L) (lev := lv) 1 (fun p hp => by rw [Finset.mem_singleton.mp hp, L_tc]; exact Finset.mem_singleton_self _)
    (fun g u hg => by obtain ⟨j, rfl⟩ := oweR_pos hg; exact Finset.mem_singleton_self _)
    (fun p hp => by rw [Finset.mem_singleton.mp hp]; exact le_refl 1)
    (fun g u hg => by obtain ⟨j, rfl⟩ := oweR_pos hg; show 1 < lv (recvCell _ j) (); rw [lv_recv]; decide)

/-! ## The ghost state a device starts from -/

/-- The invariants of every cell, under the names `K`, and that each is at the start of its round. -/
def records (K : Dev nD × Fin 15 → ℕ) : sProp 𝕄 :=
  iprop((bigSep Finset.univ fun ck : Dev nD × Fin 15 => cellInv ER (Rd m ρ) (K ck) (kcell ck))
    ∗ bigSep Finset.univ fun ck : Dev nD × Fin 15 => reached ER (kcell ck) 0)

instance records_persistent (K : Dev nD × Fin 15 → ℕ) : BI.Persistent (records m ρ K) := by unfold records; infer_instance

theorem inv_at (K : Dev nD × Fin 15 → ℕ) (ck : Dev nD × Fin 15) : records m ρ K ⊢ cellInv ER (Rd m ρ) (K ck) (kcell ck) := by
  unfold records
  exact (show _ ⊢ (bigSep Finset.univ fun ck : Dev nD × Fin 15 => (cellInv ER (Rd m ρ) (K ck) (kcell ck) : sProp 𝕄)) by
    iintro ⟨H, -⟩; iexact H).trans (bigSep_elim (Finset.mem_univ ck))
theorem reached_at (K : Dev nD × Fin 15 → ℕ) (ck : Dev nD × Fin 15) : records m ρ K ⊢ reached ER (kcell ck) 0 := by
  unfold records
  exact (show _ ⊢ (bigSep Finset.univ fun ck : Dev nD × Fin 15 => (reached ER (kcell ck) 0 : sProp 𝕄)) by
    iintro ⟨-, H⟩; iexact H).trans (bigSep_elim (Finset.mem_univ ck))

theorem inv_bar (K) (c : Dev nD) : records m ρ K ⊢ cellInv ER (Rd m ρ) (K (c, kB)) (barCell c) := inv_at m ρ K (c, kB)
theorem inv_send (K) (c : Dev nD) (j : Fin 7) : records m ρ K ⊢ cellInv ER (Rd m ρ) (K (c, kS j)) (sendCell c j) := by
  have := inv_at m ρ K (c, kS j); rwa [kcell_S] at this
theorem inv_recv (K) (c : Dev nD) (j : Fin 7) : records m ρ K ⊢ cellInv ER (Rd m ρ) (K (c, kR j)) (recvCell c j) := by
  have := inv_at m ρ K (c, kR j); rwa [kcell_R] at this
theorem reached_bar (K) (c : Dev nD) : records m ρ K ⊢ reached ER (barCell c) 0 := reached_at m ρ K (c, kB)
theorem reached_send (K) (c : Dev nD) (j : Fin 7) : records m ρ K ⊢ reached ER (sendCell c j) 0 := by
  have := reached_at m ρ K (c, kS j); rwa [kcell_S] at this
theorem reached_recv (K) (c : Dev nD) (j : Fin 7) : records m ρ K ⊢ reached ER (recvCell c j) 0 := by
  have := reached_at m ρ K (c, kR j); rwa [kcell_R] at this

/-- A device's positions in its own cells, and the tokens of the duties it pays. -/
def ats (c : Dev nD) : sProp 𝕄 :=
  iprop(atPos ER (barCell c) 0 ∅ 0 ∗ (bigSep Finset.univ fun j : Fin 7 => atPos ER (sendCell c j) 0 ∅ 0)
    ∗ bigSep Finset.univ fun j : Fin 7 => atPos ER (recvCell c j) 0 ∅ 0)
def payToks (c : Dev nD) : sProp 𝕄 :=
  iprop((bigSep Finset.univ fun j : Fin 7 => dutyTok ER (barCell (dn j c)) 0 j)
    ∗ (bigSep Finset.univ fun j : Fin 7 => dutyTok ER (sendCell c j) 0 0)
    ∗ bigSep Finset.univ fun j : Fin 7 => dutyTok ER (recvCell (up j c) j) 0 0)
def ghost (K : Dev nD × Fin 15 → ℕ) (c : Dev nD) : sProp 𝕄 := iprop(records m ρ K ∗ ats c ∗ payToks c)

def start (c : Dev nD) : sProp 𝕄 :=
  iprop((∃ K, ghost m ρ K c) ∗ cred (tallyAt (barCell c) () 7) ∗ (bigSep Finset.univ fun j : Fin 7 => cred (tallyAt (recvCell c j) () N)) ∗ levAts L lv)

/-! ## The slots of the two buffers -/

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem slot_disjoint (j j' : Fin 7) (h : j ≠ j') : Disjoint (slotR j).set (slotR j').set := by
  rw [Finset.disjoint_left]
  intro i hi hi'
  have h1 := Rect.mem_set_unit.mp hi 0
  have h2 := Rect.mem_set_unit.mp hi' 0
  apply h; apply Fin.ext
  simp [S1x64x1024] at h1 h2
  omega
theorem slot_cover (i : S7x64x1024.Idx) : ∃ j, i ∈ (slotR j).set := by
  refine ⟨⟨(i 0).val, (i 0).isLt⟩, Rect.mem_set_unit.mpr fun a => ?_⟩
  have := (i a).isLt
  fin_cases a <;> simp [S1x64x1024, S7x64x1024] at this ⊢ <;> omega

omit [FloatOps F] in
theorem s_set (j : Fin 7) : (sSl j).view.set = (slotR j).set := View.set_slice_whole _ _
omit [FloatOps F] in
theorem r_set (j : Fin 7) : (rSl j).view.set = (slotR j).set := View.set_slice_whole _ _

omit [FloatOps F] in
/-- A buffer is held slot by slot. -/
theorem slots_split (ℓ : Loc nD τ sig) (I : Fin 7 → Finset (Idx ℓ)) (hd : ∀ j j', j ≠ j' → Disjoint (I j) (I j'))
    (hc : ∀ i, ∃ j, i ∈ I j) (f : Buf (Elt F) ℓ) :
    (ℓ ↦{fullShare} f : sProp 𝕄) = bigSep Finset.univ fun j => ℓ ↦[I j]{fullShare} f := by
  rw [← pointsTo_biUnion Finset.univ I (fun j _ j' _ h => hd j j' h),
    Finset.eq_univ_of_forall (s := Finset.univ.biUnion I) fun i => Finset.mem_biUnion.mpr ((hc i).imp fun j h => ⟨Finset.mem_univ _, h⟩)]

omit [FloatOps F] in
theorem s_split (c : Dev nD) (f : Buf (Elt F) ((c : Thread nD τ).loc cc0_scratch2)) :
    ((((c : Thread nD τ).loc cc0_scratch2) ↦{fullShare} f) : sProp 𝕄) ⊢ bigSep Finset.univ fun j => iprop(∃ X, sOwn c j X) := by
  rw [slots_split ((c : Thread nD τ).loc cc0_scratch2) (fun j => (sSl j).view.set) (fun j j' h => by rw [s_set, s_set]; exact slot_disjoint j j' h)
    (fun i => (slot_cover i).imp fun j h => by rw [s_set]; exact h) f]
  have h (j : Fin 7) : ((((c : Thread nD τ).loc cc0_scratch2) ↦[(sSl j).view.set]{fullShare} f) : sProp 𝕄) ⊢ iprop(∃ X, sOwn c j X) := by
    unfold sOwn owns
    iintro H; iexists ((sSl j).view.read (Elt F) f); iexists f
    isplitr; · (ipureintro; rfl)
    iexact H
  exact bigSep_mono fun j _ => h j
omit [FloatOps F] in
theorem r_split (c : Dev nD) (f : Buf (Elt F) ((c : Thread nD τ).loc cc0_scratch3)) :
    ((((c : Thread nD τ).loc cc0_scratch3) ↦{fullShare} f) : sProp 𝕄) ⊢ bigSep Finset.univ fun j => iprop(∃ X, rOwn c j X) := by
  rw [slots_split ((c : Thread nD τ).loc cc0_scratch3) (fun j => (rSl j).view.set) (fun j j' h => by rw [r_set, r_set]; exact slot_disjoint j j' h)
    (fun i => (slot_cover i).imp fun j h => by rw [r_set]; exact h) f]
  have h (j : Fin 7) : ((((c : Thread nD τ).loc cc0_scratch3) ↦[(rSl j).view.set]{fullShare} f) : sProp 𝕄) ⊢ iprop(∃ X, rOwn c j X) := by
    unfold rOwn owns
    iintro H; iexists ((rSl j).view.read (Elt F) f); iexists f
    isplitr; · (ipureintro; rfl)
    iexact H
  exact bigSep_mono fun j _ => h j

omit [FloatOps F] in
/-- Slots of a buffer, each at some contents, are the buffer at some contents. -/
theorem slots_join (ℓ : Loc nD τ sig) (I : Fin 7 → Finset (Idx ℓ)) (hd : ∀ j j', j ≠ j' → Disjoint (I j) (I j'))
    (hc : ∀ i, ∃ j, i ∈ I j) (f₀ : Buf (Elt F) ℓ) :
    bigSep Finset.univ (fun j => iprop(∃ f, ℓ ↦[I j]{fullShare} f)) ⊢ (iprop(∃ g, ℓ ↦{fullShare} g) : sProp 𝕄) := by
  have : Nonempty (Buf (Elt F) ℓ) := ⟨f₀⟩
  refine (bigSep_exists_pi Finset.univ (fun j (f : Buf (Elt F) ℓ) => (ℓ ↦[I j]{fullShare} f : sProp 𝕄))).trans ?_
  iintro ⟨%fs, H⟩
  ihave H := (pointsTo_biUnion_join Finset.univ I fs f₀ (fun j _ j' _ h => hd j j' h)) $$ H
  icases H with ⟨%g, -, H⟩
  rw [Finset.eq_univ_of_forall (s := Finset.univ.biUnion I) fun i => Finset.mem_biUnion.mpr ((hc i).imp fun j h => ⟨Finset.mem_univ _, h⟩)]
  iexists g; iexact H

omit [FloatOps F] in
theorem s_join (c : Dev nD) (X : Fin 7 → Vec F S1x64x1024 .bf16) (f₀ : Buf (Elt F) ((c : Thread nD τ).loc cc0_scratch2)) :
    bigSep Finset.univ (fun j => sOwn c j (X j)) ⊢ (iprop(∃ g, ((c : Thread nD τ).loc cc0_scratch2) ↦{fullShare} g) : sProp 𝕄) := by
  have h (j : Fin 7) : sOwn c j (X j) ⊢ (iprop(∃ f, ((c : Thread nD τ).loc cc0_scratch2) ↦[(sSl j).view.set]{fullShare} f) : sProp 𝕄) := by
    unfold sOwn owns
    iintro ⟨%f, -, H⟩; iexists f; iexact H
  exact (bigSep_mono fun j _ => h j).trans (slots_join ((c : Thread nD τ).loc cc0_scratch2) (fun j => (sSl j).view.set)
    (fun j j' h => by rw [s_set, s_set]; exact slot_disjoint j j' h) (fun i => (slot_cover i).imp fun j h => by rw [s_set]; exact h) f₀)
omit [FloatOps F] in
theorem r_join (c : Dev nD) (X : Fin 7 → Vec F S1x64x1024 .bf16) (f₀ : Buf (Elt F) ((c : Thread nD τ).loc cc0_scratch3)) :
    bigSep Finset.univ (fun j => rOwn c j (X j)) ⊢ (iprop(∃ g, ((c : Thread nD τ).loc cc0_scratch3) ↦{fullShare} g) : sProp 𝕄) := by
  have h (j : Fin 7) : rOwn c j (X j) ⊢ (iprop(∃ f, ((c : Thread nD τ).loc cc0_scratch3) ↦[(rSl j).view.set]{fullShare} f) : sProp 𝕄) := by
    unfold rOwn owns
    iintro ⟨%f, -, H⟩; iexists f; iexact H
  exact (bigSep_mono fun j _ => h j).trans (slots_join ((c : Thread nD τ).loc cc0_scratch3) (fun j => (rSl j).view.set)
    (fun j j' h => by rw [r_set, r_set]; exact slot_disjoint j j' h) (fun i => (slot_cover i).imp fun j h => by rw [r_set]; exact h) f₀)

end Cert.KernelIdeal.Moe

end
-- ==== Proof.IStep.lean ====
/-
One step of the kernel at a time: a unit to another device's entry semaphore, the wait for the
seven units, the copy of a staged block, the wait for an arrival and for a departure, and the
load and the store of one slot of a buffer.
-/
module

public import proofs.«01_k».proof.Proof.IProto

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg) (K : Dev nD × Fin 15 → ℕ)

variable {α : Type} {Q : α → sProp (MT nD τ sig Unit (Elt F) ℕ UU ℕ)} {k : PUnit → Prog (TpuEff nD τ sig (Elt F) Λ₀ .tc) α}

/-- A unit to the device `j + 1` places before `c`, with the slot `c` receives into from it. -/
theorem wp_sig (c n : Dev nD) (j : Fin 7) (l : List (Fin 7)) (hn : n = dn j c) (W : Waits sig Unit) :
    iprop(records m ρ K ∗ owes (c : Thread nD τ) (oweS c (j :: l)) W ∗ dutyTok ER (barCell (dn j c)) 0 j ∗ (∃ X, rOwn c j X))
      ⊢ iprop((owes (c : Thread nD τ) (oweS c l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toInt) k) Q) := by
  subst hn
  iintro ⟨#HR, HO, Ht, Hs⟩ Hk
  iapply (Rounds.wp_signal 𝒱₀ ER (Rd m ρ) (c : Thread nD τ) none (dst := (dn j c : Thread nD τ)) (κ := K (dn j c, kB)) (d := j)
      (by rw [duties_bar]; exact Finset.mem_univ _) ((amount_bar m ρ (dn j c) j).trans (by decide)) () (oweS c l) rfl) $$ [HO Ht Hs]
  · isplitr; · (iapply (inv_bar m ρ K (dn j c)); iexact HR)
    isplitl [HO]; · iexact HO
    isplitl [Ht]; · iexact Ht
    isplitl [Hs]
    · rw [payload_bar]; unfold barPay; rw [up_dn]
      isplitl [Hs]; · iexact Hs
      iapply (reached_recv m ρ K c j); iexact HR
    · iapply (reached_bar m ρ K (dn j c)); iexact HR
  iexact Hk

/-- The wait for the seven units: with each comes the slot of a device to copy into. -/
theorem wp_bar (c : Dev nD) (W : Waits sig Unit) :
    iprop(records m ρ K ∗ levAts L lv ∗ cred (tallyAt (barCell c) () 7) ∗ owes (c : Thread nD τ) (oweR c all7) W ∗ atPos ER (barCell c) 0 ∅ 0)
      ⊢ iprop(((owes (c : Thread nD τ) (oweR c all7) (insert (SemLoc.reg barS, ()) W) ∗ atPos ER (barCell c) (0 + 1) ∅ 0 ∗ bigSep Finset.univ fun d => barPay c d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32 : BitVec 32).toInt) k) Q) := by
  iintro ⟨#HR, #Hlev, Hc, HO, Hat⟩ Hk
  iapply (Rounds.wp_wait_rest_token 𝒱₀ ER (Rd m ρ) (c : Thread nD τ) none (κ := K (c, kB))
      (wpE_semWait_eq 𝒱₀ (c : Thread nD τ) none Set.univ) (Set.mem_univ _) () (O := oweR c all7) (W := W) (R := 0) (m := 0) (T := ∅)
      (by rw [expect_bar]; decide)) $$ [Hc HO Hat]
  · isplitr; · (iapply (inv_bar m ρ K c); iexact HR)
    isplitl [Hc]; · iexact Hc
    isplitl [HO]; · iexact HO
    isplitr; · (iapply (mayWait_bar c); iexact Hlev)
    iexact Hat
  iintro ⟨HO, Hat, -, Hpay⟩
  iapply Hk
  isplitl [HO]; · iexact HO
  isplitl [Hat]; · iexact Hat
  iapply (Entails.of_eq (rest_bar m ρ c)); iexact Hpay

omit [FloatOps F] in
/-- The block read through the staging slot and written through the landing slot is that block. -/
theorem land (j : Fin 7) (fd : (cc0_scratch3 : Ref sig .tc).ty.Contents (Elt F)) (fs : (cc0_scratch2 : Ref sig .tc).ty.Contents (Elt F)) :
    (rSl j).view.read (Elt F) ((rSq j).view.write (Elt F) fd ((sSq j).view.read (Elt F) fs) Finset.univ) = (sSl j).view.read (Elt F) fs := by
  have h1 := View.read_write_univ (Val := Elt F) (v := (rSq j).view) fd ((sSq j).view.read (Elt F) fs)
  funext i
  have h := congrFun h1 ((Shape.reshapeEquiv (squeezes_S1x64x1024_S64x1024).numel_eq).symm i)
  have e (v : (rSl j).view.ref.ty.Contents (Elt F)) : (rSq j).view.read (Elt F) v ((Shape.reshapeEquiv (squeezes_S1x64x1024_S64x1024).numel_eq).symm i)
      = (rSl j).view.read (Elt F) v ((Shape.reshapeEquiv (squeezes_S1x64x1024_S64x1024).numel_eq) ((Shape.reshapeEquiv (squeezes_S1x64x1024_S64x1024).numel_eq).symm i)) := rfl
  have e' : (sSq j).view.read (Elt F) fs ((Shape.reshapeEquiv (squeezes_S1x64x1024_S64x1024).numel_eq).symm i)
      = (sSl j).view.read (Elt F) fs ((Shape.reshapeEquiv (squeezes_S1x64x1024_S64x1024).numel_eq) ((Shape.reshapeEquiv (squeezes_S1x64x1024_S64x1024).numel_eq).symm i)) := rfl
  rw [e, e', Equiv.apply_symm_apply] at h
  exact h

omit [FloatOps F] in
theorem sSq_set (j : Fin 7) : (sSq j).view.set = (sSl j).view.set := View.set_reshape _ _
omit [FloatOps F] in
theorem rSq_set (j : Fin 7) : (rSq j).view.set = (rSl j).view.set := View.set_reshape _ _

/-- What a departure and an arrival hand over. -/
theorem pay_dep (c : Dev nD) (j : Fin 7) (fs : (cc0_scratch2 : Ref sig .tc).ty.Contents (Elt F)) (h : (sSl j).view.read (Elt F) fs = stgAt m ρ c j) :
    (((sSq j).view.loc (c : Thread nD τ) ↦[(sSq j).view.set]{fullShare} fs) : sProp 𝕄) ⊢ (Rd m ρ).payload (sendCell c j) 0 0 := by
  rw [payload_send]; unfold sOwn owns
  iintro H; iexists fs
  isplitr; · (ipureintro; exact h)
  rw [sSq_set]; iexact H
theorem pay_arr (c : Dev nD) (j : Fin 7) (fs : (cc0_scratch2 : Ref sig .tc).ty.Contents (Elt F)) (fd : (cc0_scratch3 : Ref sig .tc).ty.Contents (Elt F))
    (h : (sSl j).view.read (Elt F) fs = stgAt m ρ c j) :
    (((rSq j).view.loc (up j c : Thread nD τ) ↦[(rSq j).view.set]{fullShare} ((rSq j).view.write (Elt F) fd ((sSq j).view.read (Elt F) fs) Finset.univ)) : sProp 𝕄)
      ⊢ (Rd m ρ).payload (recvCell (up j c) j) 0 0 := by
  rw [payload_recv]; unfold rOwn owns
  iintro H; iexists ((rSq j).view.write (Elt F) fd ((sSq j).view.read (Elt F) fs) Finset.univ)
  isplitr; · (ipureintro; rw [land, h, landAt, dn_up])
  rw [rSq_set]; iexact H

theorem wp_cp_core (c n : Dev nD) (j : Fin 7) (l : List (Fin 7)) (hn : n = up j c)
    {hsc : (rSq j : Memref sig (Dev.tc n : Thread nD τ).2.kind .vmem S64x1024 .bf16).view.ref.isScScratch = false}
    {hsrc : (sSq j).view.WordExact} {hdst : (rSq j).view.WordExact}
    {hsem : DmaTarget.Typed .vmem (.dma (recvS j)) (.remote (Dev.tc n : Thread nD τ) (rSq j : Memref sig .tc .vmem S64x1024 .bf16) (.dma (sendS j)) hsc)}
    (W : Waits sig Unit) (fs : (cc0_scratch2 : Ref sig .tc).ty.Contents (Elt F)) (fd : (cc0_scratch3 : Ref sig .tc).ty.Contents (Elt F)) (h : (sSl j).view.read (Elt F) fs = stgAt m ρ c j) :
    iprop(cellInv ER (Rd m ρ) (K (c, kS j)) (sendCell c j) ∗ cellInv ER (Rd m ρ) (K (up j c, kR j)) (recvCell (up j c) j)
        ∗ ((sSq j).view.loc (c : Thread nD τ) ↦[(sSq j).view.set]{fullShare} fs) ∗ ((rSq j).view.loc (up j c : Thread nD τ) ↦[(rSq j).view.set]{fullShare} fd)
        ∗ owes (c : Thread nD τ) (oweR c (j :: l)) W
        ∗ dutyTok ER (sendCell c j) 0 0 ∗ reached ER (sendCell c j) 0 ∗ dutyTok ER (recvCell (up j c) j) 0 0 ∗ reached ER (recvCell (up j c) j) 0)
      ⊢ iprop(((cred (tallyAt (sendCell c j) () N) ∗ owes (c : Thread nD τ) (oweR c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSq j) (.remote (Dev.tc n : Thread nD τ) (rSq j) (.dma (sendS j)) hsc) (.dma (recvS j)) hsrc hdst hsem) k) Q) := by
  subst hn
  have hN : (rSq j).view.amount (.dma (recvS j)) = N := N_eq j
  have hd₁ : (0 : Fin 7) ∈ (Rd (F := F) m ρ).duties (sendCell c j) 0 := by rw [duties_send]; exact Finset.mem_singleton_self _
  have hd₂ : (0 : Fin 7) ∈ (Rd (F := F) m ρ).duties (recvCell (up j c) j) 0 := by rw [duties_recv]; exact Finset.mem_singleton_self _
  exact Rounds.wp_send_pointsTo 𝒱₀ ER (Rd m ρ) (c : Thread nD τ) none (c' := (Dev.tc (up j c) : Thread nD τ)) (src := sSq j) (dst := rSq j) (hsc := hsc)
    (sS := .dma (sendS j)) (sem := .dma (recvS j)) (hsrc := hsrc) (hdst := hdst) (hsem := hsem) (κ₁ := K (c, kS j)) (κ₂ := K (up j c, kR j))
    (r₁ := 0) (r₂ := 0) (d₁ := 0) (d₂ := 0) (fd := fd) hd₁ hd₂
    () () N hN (amount_send m ρ c j 0) (amount_recv m ρ (up j c) j 0) (oweR c l) rfl (W := W)
    (pay_dep m ρ c j fs h) (pay_arr m ρ c j fs fd h)

/-- The copy of the block staged for the device `j + 1` places after `c`. -/
theorem wp_cp (c n : Dev nD) (j : Fin 7) (l : List (Fin 7)) (hn : n = up j c)
    {hsc : (rSq j : Memref sig (Dev.tc n : Thread nD τ).2.kind .vmem S64x1024 .bf16).view.ref.isScScratch = false}
    {hsrc : (sSq j).view.WordExact} {hdst : (rSq j).view.WordExact}
    {hsem : DmaTarget.Typed .vmem (.dma (recvS j)) (.remote (Dev.tc n : Thread nD τ) (rSq j : Memref sig .tc .vmem S64x1024 .bf16) (.dma (sendS j)) hsc)}
    (W : Waits sig Unit) :
    iprop(records m ρ K ∗ sOwn c j (stgAt m ρ c j) ∗ (∃ X, rOwn (up j c) j X) ∗ owes (c : Thread nD τ) (oweR c (j :: l)) W
        ∗ dutyTok ER (sendCell c j) 0 0 ∗ dutyTok ER (recvCell (up j c) j) 0 0)
      ⊢ iprop(((cred (tallyAt (sendCell c j) () N) ∗ owes (c : Thread nD τ) (oweR c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSq j) (.remote (Dev.tc n : Thread nD τ) (rSq j) (.dma (sendS j)) hsc) (.dma (recvS j)) hsrc hdst hsem) k) Q) := by
  subst hn
  unfold sOwn rOwn owns
  iintro ⟨#HR, ⟨%fs, %hfs, Hs⟩, ⟨%X, %fd, -, Hd⟩, HO, Ht, Ht'⟩ Hk
  iapply (wp_cp_core m ρ K c (up j c) j l rfl W fs fd hfs) $$ [Hs Hd HO Ht Ht']
  · isplitr; · (iapply (inv_send m ρ K c j); iexact HR)
    isplitr; · (iapply (inv_recv m ρ K (up j c) j); iexact HR)
    isplitl [Hs]; · (rw [sSq_set]; iexact Hs)
    isplitl [Hd]; · (rw [rSq_set]; iexact Hd)
    isplitl [HO]; · iexact HO
    isplitl [Ht]; · iexact Ht
    isplitr; · (iapply (reached_send m ρ K c j); iexact HR)
    isplitl [Ht']; · iexact Ht'
    iapply (reached_recv m ρ K (up j c) j); iexact HR
  iexact Hk

/-- The wait for the arrival in slot `j`. -/
theorem wp_arr (c : Dev nD) (j : Fin 7) (W : Waits sig Unit) {sp sp' : Space} {s' : Shape} {e' : EltTy} {src : Memref sig .tc sp' s' e'}
    {hsrc : src.view.WordExact} {hdst : (rSq j).view.WordExact} :
    iprop(records m ρ K ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ atPos ER (recvCell c j) (0 + 1) ∅ 0 ∗ rOwn c j (landAt m ρ c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src (rSq j) hsrc hdst) k) Q) := by
  iintro ⟨#HR, Hc, HO, Hat⟩ Hk
  iapply (Rounds.wp_wait_rest_token 𝒱₀ ER (Rd m ρ) (c : Thread nD τ) none (κ := K (c, kR j))
      (wpE_waitDma2_eq 𝒱₀ (c : Thread nD τ) none Set.univ) (Set.mem_univ _) () (O := 0) (W := W) (R := 0) (m := 0) (T := ∅)
      (by rw [expect_recv, Nat.zero_add])) $$ [Hc HO Hat]
  · isplitr; · (iapply (inv_recv m ρ K c j); iexact HR)
    isplitl [Hc]; · iexact Hc
    isplitl [HO]; · iexact HO
    isplitr; · (rw [MayWait_zero]; iempintro)
    iexact Hat
  iintro ⟨HO, Hat, -, Hpay⟩
  iapply Hk
  isplitl [HO]; · iexact HO
  isplitl [Hat]; · iexact Hat
  iapply (Entails.of_eq (rest_recv m ρ c j)); iexact Hpay

/-- The wait for the departure from slot `j`. -/
theorem wp_dep (c : Dev nD) (j : Fin 7) (W : Waits sig Unit) {sp sp' : Space} {s' : Shape} {e' : EltTy} {src : Memref sig .tc sp' s' e'}
    {hsrc : src.view.WordExact} {hdst : (sSq j).view.WordExact} :
    iprop(records m ρ K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) (0 + 1) ∅ 0 ∗ sOwn c j (stgAt m ρ c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src (sSq j) hsrc hdst) k) Q) := by
  iintro ⟨#HR, Hc, HO, Hat⟩ Hk
  iapply (Rounds.wp_wait_rest_token 𝒱₀ ER (Rd m ρ) (c : Thread nD τ) none (κ := K (c, kS j))
      (wpE_waitDma2_eq 𝒱₀ (c : Thread nD τ) none Set.univ) (Set.mem_univ _) () (O := 0) (W := W) (R := 0) (m := 0) (T := ∅)
      (by rw [expect_send, Nat.zero_add])) $$ [Hc HO Hat]
  · isplitr; · (iapply (inv_send m ρ K c j); iexact HR)
    isplitl [Hc]; · iexact Hc
    isplitl [HO]; · iexact HO
    isplitr; · (rw [MayWait_zero]; iempintro)
    iexact Hat
  iintro ⟨HO, Hat, -, Hpay⟩
  iapply Hk
  isplitl [HO]; · iexact HO
  isplitl [Hat]; · iexact Hat
  iapply (Entails.of_eq (rest_send m ρ c j)); iexact Hpay

section Slots
variable {kv : Vec F S1x64x1024 .bf16 → Prog (TpuEff nD τ sig (Elt F) Λ₀ .tc) α}

/-- A load of a slot of the landing buffer. -/
theorem wp_ldr (c : Dev nD) (j : Fin 7) (X : Vec F S1x64x1024 .bf16) {hl} :
    rOwn c j X ⊢ iprop((rOwn c j X -∗ wp frame (wpE (defs₀ (F := F)) 𝒱₀ (c : Thread nD τ) none) Set.univ (kv X) Q)
          -∗ wp frame (wpE (defs₀ (F := F)) 𝒱₀ (c : Thread nD τ) none) Set.univ (.op (.load rM (slotR j).toLoadRect hl) kv) Q) := by
  unfold rOwn owns
  iintro ⟨%f, %hf, H⟩ Hk
  have hS : rM.view.setOn (slotR j).toLoadRect.set ⊆ (rSl j).view.set := subset_of_eq (View.set_slice rM.view (slotR j)).symm
  iapply (wp_load 𝒱₀ (c : Thread nD τ) none Set.univ (m := rM) hS) $$ H; iintro H
  have e : rM.view.readAt (Elt F) (slotR j).toLoadRect f = X := hf
  rw [e]
  iapply Hk; iexists f
  isplitr; · (ipureintro; exact hf)
  iexact H

/-- A load of a slot of the staging buffer, whatever it holds. -/
theorem wp_lds (c : Dev nD) (j : Fin 7) {hl} :
    iprop(∃ X, sOwn c j X) ⊢ iprop((∀ v, (∃ X, sOwn c j X) -∗ wp frame (wpE (defs₀ (F := F)) 𝒱₀ (c : Thread nD τ) none) Set.univ (kv v) Q)
          -∗ wp frame (wpE (defs₀ (F := F)) 𝒱₀ (c : Thread nD τ) none) Set.univ (.op (.load sM (slotR j).toLoadRect hl) kv) Q) := by
  unfold sOwn owns
  iintro ⟨%X, %f, %hf, H⟩ Hk
  have hS : sM.view.setOn (slotR j).toLoadRect.set ⊆ (sSl j).view.set := subset_of_eq (View.set_slice sM.view (slotR j)).symm
  iapply (wp_load 𝒱₀ (c : Thread nD τ) none Set.univ (m := sM) hS) $$ H; iintro H
  iapply Hk; iexists X; iexists f
  isplitr; · (ipureintro; exact hf)
  iexact H

/-- A store of a slot of the staging buffer. -/
theorem wp_sts (c : Dev nD) (j : Fin 7) (w : Vec F S1x64x1024 .bf16) {hl hx} :
    iprop(∃ X, sOwn c j X) ⊢ iprop((sOwn c j w -∗ wp frame (wpE (defs₀ (F := F)) 𝒱₀ (c : Thread nD τ) none) Set.univ (k ⟨⟩) Q)
          -∗ wp frame (wpE (defs₀ (F := F)) 𝒱₀ (c : Thread nD τ) none) Set.univ (.op (.store sM (slotR j) w Finset.univ hl hx) k) Q) := by
  unfold sOwn owns
  iintro ⟨%X, %f, %hf, H⟩ Hk
  have hS : (sM.access (slotR j)).setOn Finset.univ ⊆ (sSl j).view.set := subset_of_eq (View.setOn_univ _)
  iapply (wp_store 𝒱₀ (c : Thread nD τ) none Set.univ (m := sM) hS) $$ H; iintro H
  iapply Hk; iexists ((sM.access (slotR j)).write (Elt F) f w Finset.univ)
  isplitr; · (ipureintro; exact View.read_write_univ _ _)
  iexact H

end Slots

end Cert.KernelIdeal.Moe

end
-- ==== Proof.IParts.lean ====
/-
The kernel's printed parts, each from what it needs to what it leaves: the values it returns are
the payloads at the contents read.
-/
module

public import proofs.«01_k».proof.Proof.IStep

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 15 → ℕ)

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

/-- A whole buffer of device `c` at contents `f`. -/
abbrev full (c : Dev nD) (b : Ref sig .tc) (f : Buf (Elt F) ((c : Thread nD τ).loc b)) : sProp 𝕄 := ((c : Thread nD τ).loc b) ↦{fullShare} f

/-- What the parts read: the tokens, their routes, the shared weights, the probabilities and the converted weights. -/
def held (c : Dev nD) : sProp 𝕄 :=
  iprop(full c cc0_stg0_0 (ax m ρ c) ∗ full c cc0_stg2_0 (aid m ρ c) ∗ full c cc0_stg4_0 (asw m ρ c) ∗ full c cc0_scratch1 (ap m ρ c) ∗ full c cc0_scratch0 (aw m ρ c))
/-- What a copy uses up besides the block: the slot it goes to, and the two tokens. -/
def sndTok (c : Dev nD) (j : Fin 7) : sProp 𝕄 :=
  iprop((∃ X, rOwn (F := F) (up j c) j X) ∗ dutyTok ER (sendCell c j) 0 0 ∗ dutyTok ER (recvCell (up j c) j) 0 0)
/-- What the wait for an arrival uses up. -/
def arrPre (c : Dev nD) (j : Fin 7) : sProp 𝕄 := iprop(cred (tallyAt (recvCell c j) () N) ∗ atPos ER (recvCell c j) 0 ∅ 0)
/-- The result's buffer at contents `X`. -/
def oOwn (c : Dev nD) (X : Vec F S256x1024 .f32) : sProp 𝕄 := full c cc0_stg5_0 X

theorem dev1_eq (c : Dev nD) : (⟨k0_dev1 c, k0_dev1_lt c⟩ : Dev nD) = dn 6 c := Fin.ext (k0_dev1_eq c)
theorem dev2_eq (c : Dev nD) : (⟨k0_dev2 c, k0_dev2_lt c⟩ : Dev nD) = dn 5 c := Fin.ext (k0_dev2_eq c)
theorem dev3_eq (c : Dev nD) : (⟨k0_dev3 c, k0_dev3_lt c⟩ : Dev nD) = dn 4 c := Fin.ext (k0_dev3_eq c)
theorem dev4_eq (c : Dev nD) : (⟨k0_dev4 c, k0_dev4_lt c⟩ : Dev nD) = dn 3 c := Fin.ext (k0_dev4_eq c)
theorem dev5_eq (c : Dev nD) : (⟨k0_dev5 c, k0_dev5_lt c⟩ : Dev nD) = dn 2 c := Fin.ext (k0_dev5_eq c)
theorem dev6_eq (c : Dev nD) : (⟨k0_dev6 c, k0_dev6_lt c⟩ : Dev nD) = dn 1 c := Fin.ext (k0_dev6_eq c)
theorem dev7_eq (c : Dev nD) : (⟨k0_dev7 c, k0_dev7_lt c⟩ : Dev nD) = dn 0 c := Fin.ext (k0_dev7_eq c)
theorem dev8_eq (c : Dev nD) : (⟨k0_dev8 c, k0_dev8_lt c⟩ : Dev nD) = up 0 c := Fin.ext (k0_dev8_eq c)
theorem dev9_eq (c : Dev nD) : (⟨k0_dev9 c, k0_dev9_lt c⟩ : Dev nD) = up 1 c := Fin.ext (k0_dev9_eq c)
theorem dev10_eq (c : Dev nD) : (⟨k0_dev10 c, k0_dev10_lt c⟩ : Dev nD) = up 2 c := Fin.ext (k0_dev10_eq c)
theorem dev11_eq (c : Dev nD) : (⟨k0_dev11 c, k0_dev11_lt c⟩ : Dev nD) = up 3 c := Fin.ext (k0_dev11_eq c)
theorem dev12_eq (c : Dev nD) : (⟨k0_dev12 c, k0_dev12_lt c⟩ : Dev nD) = up 4 c := Fin.ext (k0_dev12_eq c)
theorem dev13_eq (c : Dev nD) : (⟨k0_dev13 c, k0_dev13_lt c⟩ : Dev nD) = up 5 c := Fin.ext (k0_dev13_eq c)
theorem dev14_eq (c : Dev nD) : (⟨k0_dev14 c, k0_dev14_lt c⟩ : Dev nD) = up 6 c := Fin.ext (k0_dev14_eq c)

section Loads
variable {α : Type} {Q : α → sProp (MT nD τ sig Unit (Elt F) ℕ UU ℕ)}

theorem wp_ldx (c : Dev nD) {r : LoadRect S2048x512} {hl} {kv : (r.shape.Idx → Elt F .bf16) → Prog (TpuEff nD τ sig (Elt F) Λ₀ .tc) α} :
    held m ρ c ⊢ iprop((held m ρ c -∗ wp frame (wpE (defs₀ (F := F)) 𝒱₀ (c : Thread nD τ) none) Set.univ (kv (xM.view.readAt (Elt F) r (ax m ρ c))) Q)
      -∗ wp frame (wpE (defs₀ (F := F)) 𝒱₀ (c : Thread nD τ) none) Set.univ (.op (.load xM r hl) kv) Q) := by
  unfold held
  iintro ⟨Hx, Hi, Hs, Hp, Hw⟩ Hk
  iapply (wp_load 𝒱₀ (c : Thread nD τ) none Set.univ (m := xM) (Finset.subset_univ _)) $$ Hx; iintro Hx
  iapply Hk
  isplitl [Hx]; · iexact Hx
  isplitl [Hi]; · iexact Hi
  isplitl [Hs]; · iexact Hs
  isplitl [Hp]; · iexact Hp
  iexact Hw
theorem wp_ldi (c : Dev nD) {r : LoadRect S2048x1} {hl} {kv : (r.shape.Idx → Elt F .i32) → Prog (TpuEff nD τ sig (Elt F) Λ₀ .tc) α} :
    held m ρ c ⊢ iprop((held m ρ c -∗ wp frame (wpE (defs₀ (F := F)) 𝒱₀ (c : Thread nD τ) none) Set.univ (kv (idM.view.readAt (Elt F) r (aid m ρ c))) Q)
      -∗ wp frame (wpE (defs₀ (F := F)) 𝒱₀ (c : Thread nD τ) none) Set.univ (.op (.load idM r hl) kv) Q) := by
  unfold held
  iintro ⟨Hx, Hi, Hs, Hp, Hw⟩ Hk
  iapply (wp_load 𝒱₀ (c : Thread nD τ) none Set.univ (m := idM) (Finset.subset_univ _)) $$ Hi; iintro Hi
  iapply Hk
  isplitl [Hx]; · iexact Hx
  isplitl [Hi]; · iexact Hi
  isplitl [Hs]; · iexact Hs
  isplitl [Hp]; · iexact Hp
  iexact Hw
theorem wp_ldp (c : Dev nD) {r : LoadRect S2048x1} {hl} {kv : (r.shape.Idx → Elt F .f32) → Prog (TpuEff nD τ sig (Elt F) Λ₀ .tc) α} :
    held m ρ c ⊢ iprop((held m ρ c -∗ wp frame (wpE (defs₀ (F := F)) 𝒱₀ (c : Thread nD τ) none) Set.univ (kv (pM.view.readAt (Elt F) r (ap m ρ c))) Q)
      -∗ wp frame (wpE (defs₀ (F := F)) 𝒱₀ (c : Thread nD τ) none) Set.univ (.op (.load pM r hl) kv) Q) := by
  unfold held
  iintro ⟨Hx, Hi, Hs, Hp, Hw⟩ Hk
  iapply (wp_load 𝒱₀ (c : Thread nD τ) none Set.univ (m := pM) (Finset.subset_univ _)) $$ Hp; iintro Hp
  iapply Hk
  isplitl [Hx]; · iexact Hx
  isplitl [Hi]; · iexact Hi
  isplitl [Hs]; · iexact Hs
  isplitl [Hp]; · iexact Hp
  iexact Hw
theorem wp_ldw (c : Dev nD) {hl} {kv : Vec F S4096x1024 .bf16 → Prog (TpuEff nD τ sig (Elt F) Λ₀ .tc) α} :
    held m ρ c ⊢ iprop((held m ρ c -∗ wp frame (wpE (defs₀ (F := F)) 𝒱₀ (c : Thread nD τ) none) Set.univ (kv (aw m ρ c)) Q)
      -∗ wp frame (wpE (defs₀ (F := F)) 𝒱₀ (c : Thread nD τ) none) Set.univ
        (.op (.load wM (Rect.unit (s := S4096x1024) ![0, 0] S4096x1024.size inb_S4096x1024_S4096x1024_0_0).toLoadRect hl) kv) Q) := by
  unfold held
  iintro ⟨Hx, Hi, Hs, Hp, Hw⟩ Hk
  iapply (wp_load 𝒱₀ (c : Thread nD τ) none Set.univ (m := wM) (Finset.subset_univ _)) $$ Hw; iintro Hw
  have e : wM.view.readAt (Elt F) (Rect.unit (s := S4096x1024) ![0, 0] S4096x1024.size inb_S4096x1024_S4096x1024_0_0).toLoadRect (aw m ρ c) = aw m ρ c :=
    Memref.readAt_unit_zero (Elt F) cc0_scratch0 hz2 _ _
  rw [e]
  iapply Hk
  isplitl [Hx]; · iexact Hx
  isplitl [Hi]; · iexact Hi
  isplitl [Hs]; · iexact Hs
  isplitl [Hp]; · iexact Hp
  iexact Hw
theorem wp_ldsw (c : Dev nD) {hl} {kv : Vec F S512x1024 .bf16 → Prog (TpuEff nD τ sig (Elt F) Λ₀ .tc) α} :
    held m ρ c ⊢ iprop((held m ρ c -∗ wp frame (wpE (defs₀ (F := F)) 𝒱₀ (c : Thread nD τ) none) Set.univ (kv (asw m ρ c)) Q)
      -∗ wp frame (wpE (defs₀ (F := F)) 𝒱₀ (c : Thread nD τ) none) Set.univ
        (.op (.load swM (Rect.unit (s := S512x1024) ![0, 0] S512x1024.size inb_S512x1024_S512x1024_0_0).toLoadRect hl) kv) Q) := by
  unfold held
  iintro ⟨Hx, Hi, Hs, Hp, Hw⟩ Hk
  iapply (wp_load 𝒱₀ (c : Thread nD τ) none Set.univ (m := swM) (Finset.subset_univ _)) $$ Hs; iintro Hs
  have e : swM.view.readAt (Elt F) (Rect.unit (s := S512x1024) ![0, 0] S512x1024.size inb_S512x1024_S512x1024_0_0).toLoadRect (asw m ρ c) = asw m ρ c :=
    Memref.readAt_unit_zero (Elt F) cc0_stg4_0 hz2 _ _
  rw [e]
  iapply Hk
  isplitl [Hx]; · iexact Hx
  isplitl [Hi]; · iexact Hi
  isplitl [Hs]; · iexact Hs
  isplitl [Hp]; · iexact Hp
  iexact Hw
theorem wp_sts' (c : Dev nD) (j : Fin 7) (w X : Vec F S1x64x1024 .bf16) (h : w = X) {hl hx} {k : PUnit → Prog (TpuEff nD τ sig (Elt F) Λ₀ .tc) α} :
    iprop(∃ X, sOwn c j X) ⊢ iprop((sOwn c j X -∗ wp frame (wpE (defs₀ (F := F)) 𝒱₀ (c : Thread nD τ) none) Set.univ (k ⟨⟩) Q)
          -∗ wp frame (wpE (defs₀ (F := F)) 𝒱₀ (c : Thread nD τ) none) Set.univ (.op (.store sM (slotR j) w Finset.univ hl hx) k) Q) := by
  subst h; exact wp_sts c j w
theorem wp_ldo (c : Dev nD) {hl} {kv : Vec F S256x1024 .f32 → Prog (TpuEff nD τ sig (Elt F) Λ₀ .tc) α} :
    iprop(∃ X, oOwn c X) ⊢ iprop((∀ v, (∃ X, oOwn c X) -∗ wp frame (wpE (defs₀ (F := F)) 𝒱₀ (c : Thread nD τ) none) Set.univ (kv v) Q)
      -∗ wp frame (wpE (defs₀ (F := F)) 𝒱₀ (c : Thread nD τ) none) Set.univ
        (.op (.load outM (Rect.unit (s := S256x1024) ![0, 0] S256x1024.size inb_S256x1024_S256x1024_0_0).toLoadRect hl) kv) Q) := by
  unfold oOwn
  iintro ⟨%X, Ho⟩ Hk
  iapply (wp_load 𝒱₀ (c : Thread nD τ) none Set.univ (m := outM) (Finset.subset_univ _)) $$ Ho; iintro Ho
  iapply Hk; iexists X; iexact Ho
theorem wp_sto (c : Dev nD) (w X : Vec F S256x1024 .f32) (h : w = X) {hl hx} {k : PUnit → Prog (TpuEff nD τ sig (Elt F) Λ₀ .tc) α} :
    iprop(∃ X, oOwn c X) ⊢ iprop((oOwn c X -∗ wp frame (wpE (defs₀ (F := F)) 𝒱₀ (c : Thread nD τ) none) Set.univ (k ⟨⟩) Q)
      -∗ wp frame (wpE (defs₀ (F := F)) 𝒱₀ (c : Thread nD τ) none) Set.univ
        (.op (.store outM (Rect.unit (s := S256x1024) ![0, 0] S256x1024.size inb_S256x1024_S256x1024_0_0) w Finset.univ hl hx) k) Q) := by
  subst h
  unfold oOwn
  iintro ⟨%Y, Ho⟩ Hk
  iapply (wp_store 𝒱₀ (c : Thread nD τ) none Set.univ (m := outM) (r := Rect.unit (s := S256x1024) ![0, 0] S256x1024.size inb_S256x1024_S256x1024_0_0) (Mk := Finset.univ) (Finset.subset_univ _)) $$ Ho; iintro Ho
  have e : (outM.access (Rect.unit (s := S256x1024) ![0, 0] S256x1024.size inb_S256x1024_S256x1024_0_0) : View sig .tc _ _ _).write (Elt F) Y w Finset.univ = w :=
    Memref.write_access_unit_zero_univ (Elt F) cc0_stg5_0 hz2 _ Y w
  rw [e]
  iapply Hk; iexact Ho

end Loads

/-- What a unit to another device uses up: its token, and the slot it hands over. -/
def sigTok (c : Dev nD) (j : Fin 7) : sProp 𝕄 := iprop(dutyTok ER (barCell (dn j c)) 0 j ∗ ∃ X, rOwn (F := F) c j X)

theorem wp_sg {α : Type} {Q : α → sProp (MT nD τ sig Unit (Elt F) ℕ UU ℕ)} {k : PUnit → Prog (TpuEff nD τ sig (Elt F) Λ₀ .tc) α}
    (c n : Dev nD) (j : Fin 7) (l : List (Fin 7)) (hn : n = dn j c) (W : Waits sig Unit) :
    iprop(records m ρ K ∗ owes (c : Thread nD τ) (oweS c (j :: l)) W ∗ sigTok c j)
      ⊢ iprop((owes (c : Thread nD τ) (oweS c l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toInt) k) Q) := by
  unfold sigTok
  exact wp_sig m ρ K c n j l hn W

theorem part1 (c : Dev nD) (W : Waits sig Unit) {Q : _ → sProp 𝕄} :
    iprop(records m ρ K ∗ owes (c : Thread nD τ) (O₀ c) W ∗ sigTok c 6 ∗ sigTok c 5 ∗ sigTok c 4 ∗ sigTok c 3 ∗ sigTok c 2
        ∗ (owes (c : Thread nD τ) (oweS c [1, 0]) W -∗ Q ⟨c, me c, SemArray.scalar (sig.barrier 0 rfl), Scalar.addi (me c) 6#32, 8#32⟩))
      ⊢ wp frame (wpE (defs₀ (F := F)) 𝒱₀ (c : Thread nD τ) none) Set.univ (k0_part1 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5) Q := by
  simp only [k0_part1_eq_skeleton]; unfold k0_part1_skel
  simp only [semSignalWord, Prog.lift, Prog.bind_op, Prog.bind_ret, Prog.pure_eq_ret, wp_deviceId]
  iintro ⟨#HR, HO, H6, H5, H4, H3, H2, Hk⟩
  iapply (wp_sg m ρ K c _ 6 [5, 4, 3, 2, 1, 0] (dev1_eq c) W) $$ [HO H6]
  · isplitr; · iexact HR
    isplitl [HO]; · iexact HO
    iexact H6
  iintro HO
  iapply (wp_sg m ρ K c _ 5 [4, 3, 2, 1, 0] (dev2_eq c) W) $$ [HO H5]
  · isplitr; · iexact HR
    isplitl [HO]; · iexact HO
    iexact H5
  iintro HO
  iapply (wp_sg m ρ K c _ 4 [3, 2, 1, 0] (dev3_eq c) W) $$ [HO H4]
  · isplitr; · iexact HR
    isplitl [HO]; · iexact HO
    iexact H4
  iintro HO
  iapply (wp_sg m ρ K c _ 3 [2, 1, 0] (dev4_eq c) W) $$ [HO H3]
  · isplitr; · iexact HR
    isplitl [HO]; · iexact HO
    iexact H3
  iintro HO
  iapply (wp_sg m ρ K c _ 2 [1, 0] (dev5_eq c) W) $$ [HO H2]
  · isplitr; · iexact HR
    isplitl [HO]; · iexact HO
    iexact H2
  iintro HO
  rw [wp_ret]; imodintro
  iapply Hk; iexact HO

theorem part2 (c : Dev nD) (v2 v24 c8 : BitVec 32) (W : Waits sig Unit) {Q : _ → sProp 𝕄} :
    iprop(records m ρ K ∗ levAts L lv ∗ owes (c : Thread nD τ) (oweS c [1, 0]) W ∗ sigTok c 1 ∗ sigTok c 0
        ∗ cred (tallyAt (barCell c) () 7) ∗ atPos ER (barCell c) 0 ∅ 0
        ∗ full c cc0_stg0_0 (ax m ρ c) ∗ full c cc0_stg1_0 (arw m ρ c) ∗ full c cc0_stg2_0 (aid m ρ c) ∗ full c cc0_stg3_0 (aew m ρ c) ∗ (∃ f, full c cc0_scratch0 f)
        ∗ ((owes (c : Thread nD τ) (oweR c all7) (insert (SemLoc.reg barS, ()) W) ∗ atPos ER (barCell c) (0 + 1) ∅ 0 ∗ (bigSep Finset.univ fun d => barPay c d)
            ∗ full c cc0_stg0_0 (ax m ρ c) ∗ full c cc0_stg1_0 (arw m ρ c) ∗ full c cc0_stg2_0 (aid m ρ c) ∗ full c cc0_stg3_0 (aew m ρ c) ∗ full c cc0_scratch0 (aw m ρ c))
          -∗ Q ⟨k0_pay2 (ax m ρ c) (arw m ρ c), k0_pay3 (ax m ρ c) (arw m ρ c), k0_pay4 (aid m ρ c), k0_pay5⟩))
      ⊢ wp frame (wpE (defs₀ (F := F)) 𝒱₀ (c : Thread nD τ) none) Set.univ (k0_part2 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 (SemArray.scalar (sig.barrier 0 rfl)) v24 c8) Q := by
  have e0 : xM.view.readAt (Elt F) (Rect.unit (s := S2048x512) ![0, 0] S2048x512.size inb_S2048x512_S2048x512_0_0).toLoadRect (ax m ρ c) = ax m ρ c :=
    Memref.readAt_unit_zero (Elt F) cc0_stg0_0 hz2 _ _
  have e1 : rwM.view.readAt (Elt F) (Rect.unit (s := S512x64) ![0, 0] S512x64.size inb_S512x64_S512x64_0_0).toLoadRect (arw m ρ c) = arw m ρ c :=
    Memref.readAt_unit_zero (Elt F) cc0_stg1_0 hz2 _ _
  have e2 : idM.view.readAt (Elt F) (Rect.unit (s := S2048x1) ![0, 0] S2048x1.size inb_S2048x1_S2048x1_0_0).toLoadRect (aid m ρ c) = aid m ρ c :=
    Memref.readAt_unit_zero (Elt F) cc0_stg2_0 hz2 _ _
  have e3 : ewM.view.readAt (Elt F) (Rect.unit (s := S8x512x1024) ![0, 0, 0] S8x512x1024.size inb_S8x512x1024_S8x512x1024_0_0_0).toLoadRect (aew m ρ c) = aew m ρ c :=
    Memref.readAt_unit_zero (Elt F) cc0_stg3_0 hz3 _ _
  have e4 (f : (cc0_scratch0 : Ref sig .tc).ty.Contents (Elt F)) : (wM.access (Rect.unit (s := S4096x1024) ![0, 0] S4096x1024.size inb_S4096x1024_S4096x1024_0_0) : View sig .tc _ _ _).write (Elt F) f (k0_pay1 (aew m ρ c)) Finset.univ
      = aw m ρ c := Memref.write_access_unit_zero_univ (Elt F) cc0_scratch0 hz2 _ f _
  simp only [k0_part2_eq_skeleton]; unfold k0_part2_skel
  simp only [semSignalWord, semWaitWord, Prog.lift, Prog.bind_op, Prog.bind_ret, Prog.pure_eq_ret]
  iintro ⟨#HR, #Hlev, HO, H1, H0, Hc, Hat, Hx, Hr, Hi, He, ⟨%f, Hw⟩, Hk⟩
  iapply (wp_sg m ρ K c _ 1 [0] (dev6_eq c) W) $$ [HO H1]
  · isplitr; · iexact HR
    isplitl [HO]; · iexact HO
    iexact H1
  iintro HO
  iapply (wp_sg m ρ K c _ 0 [] (dev7_eq c) W) $$ [HO H0]
  · isplitr; · iexact HR
    isplitl [HO]; · iexact HO
    iexact H0
  iintro HO
  iapply (wp_bar m ρ K c W) $$ [Hc HO Hat]
  · isplitr; · iexact HR
    isplitr; · iexact Hlev
    isplitl [Hc]; · iexact Hc
    isplitl [HO]; · iexact HO
    iexact Hat
  iintro ⟨HO, Hat, Hpay⟩
  iapply (wp_load 𝒱₀ (c : Thread nD τ) none Set.univ (m := ewM) (Finset.subset_univ _)) $$ He; iintro He
  rw [e3]
  iapply (wp_load 𝒱₀ (c : Thread nD τ) none Set.univ (m := wM) (Finset.subset_univ _)) $$ Hw; iintro Hw
  iapply (wp_store 𝒱₀ (c : Thread nD τ) none Set.univ (m := wM) (r := Rect.unit (s := S4096x1024) ![0, 0] S4096x1024.size inb_S4096x1024_S4096x1024_0_0) (Mk := Finset.univ) (Finset.subset_univ _)) $$ Hw; iintro Hw
  rw [e4]
  iapply (wp_load 𝒱₀ (c : Thread nD τ) none Set.univ (m := xM) (Finset.subset_univ _)) $$ Hx; iintro Hx
  rw [e0]
  iapply (wp_load 𝒱₀ (c : Thread nD τ) none Set.univ (m := rwM) (Finset.subset_univ _)) $$ Hr; iintro Hr
  rw [e1]
  iapply (wp_load 𝒱₀ (c : Thread nD τ) none Set.univ (m := idM) (Finset.subset_univ _)) $$ Hi; iintro Hi
  rw [e2]
  rw [wp_ret]; imodintro
  iapply Hk
  isplitl [HO]; · iexact HO
  isplitl [Hat]; · iexact Hat
  isplitl [Hpay]; · iexact Hpay
  isplitl [Hx]; · iexact Hx
  isplitl [Hr]; · iexact Hr
  isplitl [Hi]; · iexact Hi
  isplitl [He]; · iexact He
  iexact Hw

theorem part3 (c : Dev nD) (v2 : BitVec 32) (v47 : FVec F S2048x64 .f32) (v49 : FVec F S2048x1 .f32) (v54 : IVec S2048x64 1) (v55 : FVec F S2048x64 .f32)
    (hv : k0_pay6 v47 v49 v54 v55 = ap m ρ c) {Q : _ → sProp 𝕄} :
    iprop(full c cc0_stg2_0 (aid m ρ c) ∗ (∃ f, full c cc0_scratch1 f)
        ∗ ((full c cc0_stg2_0 (aid m ρ c) ∗ full c cc0_scratch1 (ap m ρ c))
          -∗ Q ⟨k0_pay7, k0_pay8, Scalar.remsi (Scalar.addi v2 1#32) 8#32, Scalar.muli (Scalar.remsi (Scalar.addi v2 1#32) 8#32) 256#32,
            k0_pay10 (iRow c 0 (aid m ρ c)), k0_pay11 (iRow c 0 (aid m ρ c)), k0_pay12 (iRow c 0 (aid m ρ c))⟩))
      ⊢ wp frame (wpE (defs₀ (F := F)) 𝒱₀ (c : Thread nD τ) none) Set.univ (k0_part3 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v47 v49 v54 v55) Q := by
  have e4 (f : (cc0_scratch1 : Ref sig .tc).ty.Contents (Elt F)) : (pM.access (Rect.unit (s := S2048x1) ![0, 0] S2048x1.size inb_S2048x1_S2048x1_0_0) : View sig .tc _ _ _).write (Elt F) f (k0_pay6 v47 v49 v54 v55) Finset.univ
      = ap m ρ c := (Memref.write_access_unit_zero_univ (Elt F) cc0_scratch1 hz2 _ f _).trans hv
  simp only [k0_part3_eq_skeleton]; unfold k0_part3_skel
  simp only [Prog.lift, Prog.bind_op, Prog.bind_ret, Prog.pure_eq_ret]
  iintro ⟨Hi, ⟨%f, Hp⟩, Hk⟩
  iapply (wp_load 𝒱₀ (c : Thread nD τ) none Set.univ (m := pM) (Finset.subset_univ _)) $$ Hp; iintro Hp
  iapply (wp_store 𝒱₀ (c : Thread nD τ) none Set.univ (m := pM) (r := Rect.unit (s := S2048x1) ![0, 0] S2048x1.size inb_S2048x1_S2048x1_0_0) (Mk := Finset.univ) (Finset.subset_univ _)) $$ Hp; iintro Hp
  rw [e4]
  iapply (wp_load 𝒱₀ (c : Thread nD τ) none Set.univ (m := idM) (Finset.subset_univ _)) $$ Hi; iintro Hi
  rw [wp_ret]; imodintro
  iapply Hk
  isplitl [Hi]; · iexact Hi
  iexact Hp

theorem part4 (c : Dev nD) (v2 : BitVec 32) (v68 : FVec F S256x256 .bf16) (v72 : FVec F S256x64 .f32) (v74 : BitVec 32) (v75 : BitVec 32) (v81 : IVec S256x1 32) (v95 : IVec S256x1 1) (v99 : IVec S256x1 1)  {Q : _ → sProp 𝕄} :
    iprop(held m ρ c ∗ ((held m ρ c) -∗ Q ((k0_pay13 v2 v68 v72 v81 v95 v99 (xRow c 0 (ax m ρ c)) (iRow c 0 (aid m ρ c)) (pRow c 0 (ap m ρ c))))))
      ⊢ wp frame (wpE (defs₀ (F := F)) 𝒱₀ (c : Thread nD τ) none) Set.univ (k0_part4 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v68 v72 v74 v75 v81 v95 v99) Q := by
  simp only [k0_part4_eq_skeleton]; unfold k0_part4_skel
  simp only [Prog.lift, Prog.bind_op, Prog.bind_ret, Prog.pure_eq_ret]
  iintro ⟨Hh, Hk⟩
  iapply (wp_ldx m ρ c) $$ Hh; iintro Hh
  iapply (wp_ldi m ρ c) $$ Hh; iintro Hh
  iapply (wp_ldp m ρ c) $$ Hh; iintro Hh
  rw [wp_ret]; imodintro
  iapply Hk
  iexact Hh

theorem part5 (c : Dev nD) (v2 : BitVec 32) (v74 : BitVec 32) (v148 : FVec F S64x4096 .bf16) (hv : (k0_pay14 v148 (aw m ρ c)) = stgAt m ρ c 0) (W : Waits sig Unit) {Q : _ → sProp 𝕄} :
    iprop(records m ρ K ∗ (∃ X, sOwn c 0 X) ∗ sndTok c 0 ∗ owes (c : Thread nD τ) (oweR c [0, 1, 2, 3, 4, 5, 6]) W ∗ held m ρ c ∗ ((cred (tallyAt (sendCell c 0) () N) ∗ owes (c : Thread nD τ) (oweR c [1, 2, 3, 4, 5, 6]) W ∗ held m ρ c) -∗ Q (⟨(Scalar.remsi (Scalar.addi v2 2#32) 8#32), (Scalar.muli (Scalar.remsi (Scalar.addi v2 2#32) 8#32) 256#32), k0_pay15 (iRow c 1 (aid m ρ c)), 8#32, k0_pay16 (iRow c 1 (aid m ρ c)), k0_pay17 (iRow c 1 (aid m ρ c)), (Scalar.cmpi .sgt 8#32 0#32)⟩)))
      ⊢ wp frame (wpE (defs₀ (F := F)) 𝒱₀ (c : Thread nD τ) none) Set.univ (k0_part5 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v74 v148) Q := by
  simp only [k0_part5_eq_skeleton]; unfold k0_part5_skel
  simp only [Prog.lift, Prog.bind_op, Prog.bind_ret, Prog.pure_eq_ret]
  iintro ⟨#HR, HS0, HT0, HO, Hh, Hk⟩
  iapply (wp_ldw m ρ c) $$ Hh; iintro Hh
  iapply (wp_lds c 0) $$ HS0; iintro %_ HS0
  iapply (wp_sts' c 0 _ _ hv) $$ HS0; iintro HG0
  unfold sndTok; icases HT0 with ⟨HT0, HTa, HTb⟩
  iapply (wp_cp m ρ K c _ 0 [1, 2, 3, 4, 5, 6] (dev8_eq c) W) $$ [HG0 HT0 HO HTa HTb]
  · isplitr; · iexact HR
    isplitl [HG0]; · iexact HG0
    isplitl [HT0]; · iexact HT0
    isplitl [HO]; · iexact HO
    isplitl [HTa]; · iexact HTa
    iexact HTb
  iintro ⟨HC0, HO⟩
  iapply (wp_ldi m ρ c) $$ Hh; iintro Hh
  rw [wp_ret]; imodintro
  iapply Hk
  isplitl [HC0]; · iexact HC0
  isplitl [HO]; · iexact HO
  iexact Hh

theorem part6 (c : Dev nD) (v2 : BitVec 32) (v68 : FVec F S256x256 .bf16) (v72 : FVec F S256x64 .f32) (v166 : BitVec 32) (v167 : BitVec 32) (v171 : IVec S256x1 32) (c8_i32_88 : BitVec 32) (v173 : IVec S256x1 32) (v180 : IVec S256x1 32) (v181 : BitVec 1)  {Q : _ → sProp 𝕄} :
    iprop(held m ρ c ∗ ((held m ρ c) -∗ Q (⟨k0_pay18 v2 v68 v72 v171 c8_i32_88 v173 v180 v181, k0_pay19 v2 v68 v72 v171 c8_i32_88 v173 v180 v181 (xRow c 1 (ax m ρ c)), k0_pay20 v2 (iRow c 1 (aid m ρ c)), (Scalar.ofBits .f32 0x00000000#32), k0_pay21 (pRow c 1 (ap m ρ c))⟩)))
      ⊢ wp frame (wpE (defs₀ (F := F)) 𝒱₀ (c : Thread nD τ) none) Set.univ (k0_part6 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v68 v72 v166 v167 v171 c8_i32_88 v173 v180 v181) Q := by
  simp only [k0_part6_eq_skeleton]; unfold k0_part6_skel
  simp only [Prog.lift, Prog.bind_op, Prog.bind_ret, Prog.pure_eq_ret]
  iintro ⟨Hh, Hk⟩
  iapply (wp_ldx m ρ c) $$ Hh; iintro Hh
  iapply (wp_ldi m ρ c) $$ Hh; iintro Hh
  iapply (wp_ldp m ρ c) $$ Hh; iintro Hh
  rw [wp_ret]; imodintro
  iapply Hk
  iexact Hh

theorem part7 (c : Dev nD) (v2 : BitVec 32) (v166 : BitVec 32) (v210 : FVec F S256x64 .bf16) (v215 : FVec F S64x512 .bf16) (v227 : IVec S256x8 1) (cst_103 : F .f32) (v229 : FVec F S256x8 .f32) (hv : (k0_pay22 v210 v215 v227 cst_103 v229 (aw m ρ c)) = stgAt m ρ c 1) (W : Waits sig Unit) {Q : _ → sProp 𝕄} :
    iprop(records m ρ K ∗ (∃ X, sOwn c 1 X) ∗ sndTok c 1 ∗ owes (c : Thread nD τ) (oweR c [1, 2, 3, 4, 5, 6]) W ∗ held m ρ c ∗ ((cred (tallyAt (sendCell c 1) () N) ∗ owes (c : Thread nD τ) (oweR c [2, 3, 4, 5, 6]) W ∗ held m ρ c) -∗ Q (⟨(Scalar.remsi (Scalar.addi v2 3#32) 8#32), (Scalar.muli (Scalar.remsi (Scalar.addi v2 3#32) 8#32) 256#32), k0_pay23 (iRow c 2 (aid m ρ c)), 8#32, k0_pay24⟩)))
      ⊢ wp frame (wpE (defs₀ (F := F)) 𝒱₀ (c : Thread nD τ) none) Set.univ (k0_part7 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v166 v210 v215 v227 cst_103 v229) Q := by
  simp only [k0_part7_eq_skeleton]; unfold k0_part7_skel
  simp only [Prog.lift, Prog.bind_op, Prog.bind_ret, Prog.pure_eq_ret]
  iintro ⟨#HR, HS1, HT1, HO, Hh, Hk⟩
  iapply (wp_ldw m ρ c) $$ Hh; iintro Hh
  iapply (wp_lds c 1) $$ HS1; iintro %_ HS1
  iapply (wp_sts' c 1 _ _ hv) $$ HS1; iintro HG1
  unfold sndTok; icases HT1 with ⟨HT1, HTa, HTb⟩
  iapply (wp_cp m ρ K c _ 1 [2, 3, 4, 5, 6] (dev9_eq c) W) $$ [HG1 HT1 HO HTa HTb]
  · isplitr; · iexact HR
    isplitl [HG1]; · iexact HG1
    isplitl [HT1]; · iexact HT1
    isplitl [HO]; · iexact HO
    isplitl [HTa]; · iexact HTa
    iexact HTb
  iintro ⟨HC1, HO⟩
  iapply (wp_ldi m ρ c) $$ Hh; iintro Hh
  rw [wp_ret]; imodintro
  iapply Hk
  isplitl [HC1]; · iexact HC1
  isplitl [HO]; · iexact HO
  iexact Hh

theorem part8 (c : Dev nD) (v2 : BitVec 32) (v68 : FVec F S256x256 .bf16) (v72 : FVec F S256x64 .f32) (v258 : BitVec 32) (v259 : BitVec 32) (v263 : IVec S256x1 32) (c8_i32_125 : BitVec 32) (v264 : IVec S256x1 32)  {Q : _ → sProp 𝕄} :
    iprop(held m ρ c ∗ ((held m ρ c) -∗ Q (⟨k0_pay25 v2 v68 v72 v263 c8_i32_125 v264, k0_pay26 v2 v68 v72 v263 c8_i32_125 v264 (xRow c 2 (ax m ρ c)), k0_pay27 (iRow c 2 (aid m ρ c))⟩)))
      ⊢ wp frame (wpE (defs₀ (F := F)) 𝒱₀ (c : Thread nD τ) none) Set.univ (k0_part8 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v68 v72 v258 v259 v263 c8_i32_125 v264) Q := by
  simp only [k0_part8_eq_skeleton]; unfold k0_part8_skel
  simp only [Prog.lift, Prog.bind_op, Prog.bind_ret, Prog.pure_eq_ret]
  iintro ⟨Hh, Hk⟩
  iapply (wp_ldx m ρ c) $$ Hh; iintro Hh
  iapply (wp_ldi m ρ c) $$ Hh; iintro Hh
  rw [wp_ret]; imodintro
  iapply Hk
  iexact Hh

theorem part9 (c : Dev nD) (v2 : BitVec 32) (v258 : BitVec 32) (v302 : FVec F S256x64 .bf16) (v307 : FVec F S64x512 .bf16) (v311 : IVec S256x1 32) (hv : (k0_pay28 v2 v302 v307 v311 (pRow c 2 (ap m ρ c)) (aw m ρ c)) = stgAt m ρ c 2) (W : Waits sig Unit) {Q : _ → sProp 𝕄} :
    iprop(records m ρ K ∗ (∃ X, sOwn c 2 X) ∗ sndTok c 2 ∗ owes (c : Thread nD τ) (oweR c [2, 3, 4, 5, 6]) W ∗ held m ρ c ∗ ((cred (tallyAt (sendCell c 2) () N) ∗ owes (c : Thread nD τ) (oweR c [3, 4, 5, 6]) W ∗ held m ρ c) -∗ Q ((Scalar.addi v2 4#32))))
      ⊢ wp frame (wpE (defs₀ (F := F)) 𝒱₀ (c : Thread nD τ) none) Set.univ (k0_part9 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v258 v302 v307 v311) Q := by
  simp only [k0_part9_eq_skeleton]; unfold k0_part9_skel
  simp only [Prog.lift, Prog.bind_op, Prog.bind_ret, Prog.pure_eq_ret]
  iintro ⟨#HR, HS2, HT2, HO, Hh, Hk⟩
  iapply (wp_ldp m ρ c) $$ Hh; iintro Hh
  iapply (wp_ldw m ρ c) $$ Hh; iintro Hh
  iapply (wp_lds c 2) $$ HS2; iintro %_ HS2
  iapply (wp_sts' c 2 _ _ hv) $$ HS2; iintro HG2
  unfold sndTok; icases HT2 with ⟨HT2, HTa, HTb⟩
  iapply (wp_cp m ρ K c _ 2 [3, 4, 5, 6] (dev10_eq c) W) $$ [HG2 HT2 HO HTa HTb]
  · isplitr; · iexact HR
    isplitl [HG2]; · iexact HG2
    isplitl [HT2]; · iexact HT2
    isplitl [HO]; · iexact HO
    isplitl [HTa]; · iexact HTa
    iexact HTb
  iintro ⟨HC2, HO⟩
  rw [wp_ret]; imodintro
  iapply Hk
  isplitl [HC2]; · iexact HC2
  isplitl [HO]; · iexact HO
  iexact Hh

theorem part10 (c : Dev nD) (v2 : BitVec 32) (v68 : FVec F S256x256 .bf16) (v72 : FVec F S256x64 .f32) (v349 : BitVec 32)  {Q : _ → sProp 𝕄} :
    iprop(held m ρ c ∗ ((held m ρ c) -∗ Q (⟨(Scalar.remsi v349 8#32), k0_pay29 v2 v68 v72 (iRow c 3 (aid m ρ c))⟩)))
      ⊢ wp frame (wpE (defs₀ (F := F)) 𝒱₀ (c : Thread nD τ) none) Set.univ (k0_part10 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v68 v72 v349) Q := by
  simp only [k0_part10_eq_skeleton]; unfold k0_part10_skel
  simp only [Prog.lift, Prog.bind_op, Prog.bind_ret, Prog.pure_eq_ret]
  iintro ⟨Hh, Hk⟩
  iapply (wp_ldi m ρ c) $$ Hh; iintro Hh
  rw [wp_ret]; imodintro
  iapply Hk
  iexact Hh

theorem part11 (c : Dev nD) (v2 : BitVec 32) (v350 : BitVec 32) (v394 : FVec F S256x64 .bf16) (hv : (k0_pay30 v2 v394 (xRow c 3 (ax m ρ c)) (iRow c 3 (aid m ρ c)) (pRow c 3 (ap m ρ c)) (aw m ρ c)) = stgAt m ρ c 3) {Q : _ → sProp 𝕄} :
    iprop((∃ X, sOwn c 3 X) ∗ held m ρ c ∗ ((sOwn c 3 (stgAt m ρ c 3) ∗ held m ρ c) -∗ Q (⟨⟩)))
      ⊢ wp frame (wpE (defs₀ (F := F)) 𝒱₀ (c : Thread nD τ) none) Set.univ (k0_part11 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v350 v394) Q := by
  simp only [k0_part11_eq_skeleton]; unfold k0_part11_skel
  simp only [Prog.lift, Prog.bind_op, Prog.bind_ret, Prog.pure_eq_ret]
  iintro ⟨HS3, Hh, Hk⟩
  iapply (wp_ldx m ρ c) $$ Hh; iintro Hh
  iapply (wp_ldi m ρ c) $$ Hh; iintro Hh
  iapply (wp_ldp m ρ c) $$ Hh; iintro Hh
  iapply (wp_ldw m ρ c) $$ Hh; iintro Hh
  iapply (wp_lds c 3) $$ HS3; iintro %_ HS3
  iapply (wp_sts' c 3 _ _ hv) $$ HS3; iintro HG3
  rw [wp_ret]; imodintro
  iapply Hk
  isplitl [HG3]; · iexact HG3
  iexact Hh

theorem part12 (c : Dev nD) (v2 : BitVec 32) (v68 : FVec F S256x256 .bf16)  (W : Waits sig Unit) {Q : _ → sProp 𝕄} :
    iprop(records m ρ K ∗ sOwn c 3 (stgAt m ρ c 3) ∗ sndTok c 3 ∗ owes (c : Thread nD τ) (oweR c [3, 4, 5, 6]) W ∗ held m ρ c ∗ ((cred (tallyAt (sendCell c 3) () N) ∗ owes (c : Thread nD τ) (oweR c [4, 5, 6]) W ∗ held m ρ c) -∗ Q (⟨(Scalar.remsi (Scalar.addi v2 5#32) 8#32), (Scalar.muli (Scalar.remsi (Scalar.addi v2 5#32) 8#32) 256#32), k0_pay31 v2 (iRow c 4 (aid m ρ c)), k0_pay32 v2 v68 (iRow c 4 (aid m ρ c))⟩)))
      ⊢ wp frame (wpE (defs₀ (F := F)) 𝒱₀ (c : Thread nD τ) none) Set.univ (k0_part12 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v68) Q := by
  simp only [k0_part12_eq_skeleton]; unfold k0_part12_skel
  simp only [Prog.lift, Prog.bind_op, Prog.bind_ret, Prog.pure_eq_ret]
  iintro ⟨#HR, HG3, HT3, HO, Hh, Hk⟩
  unfold sndTok; icases HT3 with ⟨HT3, HTa, HTb⟩
  iapply (wp_cp m ρ K c _ 3 [4, 5, 6] (dev11_eq c) W) $$ [HG3 HT3 HO HTa HTb]
  · isplitr; · iexact HR
    isplitl [HG3]; · iexact HG3
    isplitl [HT3]; · iexact HT3
    isplitl [HO]; · iexact HO
    isplitl [HTa]; · iexact HTa
    iexact HTb
  iintro ⟨HC3, HO⟩
  iapply (wp_ldi m ρ c) $$ Hh; iintro Hh
  rw [wp_ret]; imodintro
  iapply Hk
  isplitl [HC3]; · iexact HC3
  isplitl [HO]; · iexact HO
  iexact Hh

theorem part13 (c : Dev nD) (v2 : BitVec 32) (v72 : FVec F S256x64 .f32) (v442 : BitVec 32) (v443 : BitVec 32) (v476 : FVec F S256x1 .bf16) (v477 : FVec F S256x1 .f32)  {Q : _ → sProp 𝕄} :
    iprop((∃ X, sOwn c 4 X) ∗ held m ρ c ∗ (((∃ X, sOwn c 4 X) ∗ held m ρ c) -∗ Q ((k0_pay33 v2 v72 v476 v477 (xRow c 4 (ax m ρ c)) (iRow c 4 (aid m ρ c)) (pRow c 4 (ap m ρ c)) (aw m ρ c)))))
      ⊢ wp frame (wpE (defs₀ (F := F)) 𝒱₀ (c : Thread nD τ) none) Set.univ (k0_part13 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v72 v442 v443 v476 v477) Q := by
  simp only [k0_part13_eq_skeleton]; unfold k0_part13_skel
  simp only [Prog.lift, Prog.bind_op, Prog.bind_ret, Prog.pure_eq_ret]
  iintro ⟨HS4, Hh, Hk⟩
  iapply (wp_ldx m ρ c) $$ Hh; iintro Hh
  iapply (wp_ldi m ρ c) $$ Hh; iintro Hh
  iapply (wp_ldp m ρ c) $$ Hh; iintro Hh
  iapply (wp_ldw m ρ c) $$ Hh; iintro Hh
  iapply (wp_lds c 4) $$ HS4; iintro %_ HS4
  rw [wp_ret]; imodintro
  iapply Hk
  isplitl [HS4]; · iexact HS4
  iexact Hh

theorem part14 (c : Dev nD) (v2 : BitVec 32) (v442 : BitVec 32) (v522 : FVec F S1x64x1024 .bf16) (hv : v522 = stgAt m ρ c 4) (W : Waits sig Unit) {Q : _ → sProp 𝕄} :
    iprop(records m ρ K ∗ (∃ X, sOwn c 4 X) ∗ sndTok c 4 ∗ owes (c : Thread nD τ) (oweR c [4, 5, 6]) W ∗ held m ρ c ∗ ((cred (tallyAt (sendCell c 4) () N) ∗ owes (c : Thread nD τ) (oweR c [5, 6]) W ∗ held m ρ c) -∗ Q (⟨(Scalar.remsi (Scalar.addi v2 6#32) 8#32), (Scalar.muli (Scalar.remsi (Scalar.addi v2 6#32) 8#32) 256#32), k0_pay35 (iRow c 5 (aid m ρ c)), k0_pay36 (iRow c 5 (aid m ρ c)), k0_pay37 (iRow c 5 (aid m ρ c))⟩)))
      ⊢ wp frame (wpE (defs₀ (F := F)) 𝒱₀ (c : Thread nD τ) none) Set.univ (k0_part14 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v442 v522) Q := by
  simp only [k0_part14_eq_skeleton]; unfold k0_part14_skel
  simp only [Prog.lift, Prog.bind_op, Prog.bind_ret, Prog.pure_eq_ret]
  iintro ⟨#HR, HS4, HT4, HO, Hh, Hk⟩
  iapply (wp_sts' c 4 _ _ hv) $$ HS4; iintro HG4
  unfold sndTok; icases HT4 with ⟨HT4, HTa, HTb⟩
  iapply (wp_cp m ρ K c _ 4 [5, 6] (dev12_eq c) W) $$ [HG4 HT4 HO HTa HTb]
  · isplitr; · iexact HR
    isplitl [HG4]; · iexact HG4
    isplitl [HT4]; · iexact HT4
    isplitl [HO]; · iexact HO
    isplitl [HTa]; · iexact HTa
    iexact HTb
  iintro ⟨HC4, HO⟩
  iapply (wp_ldi m ρ c) $$ Hh; iintro Hh
  rw [wp_ret]; imodintro
  iapply Hk
  isplitl [HC4]; · iexact HC4
  isplitl [HO]; · iexact HO
  iexact Hh

theorem part15 (c : Dev nD) (v2 : BitVec 32) (v68 : FVec F S256x256 .bf16) (v72 : FVec F S256x64 .f32) (v534 : BitVec 32) (v535 : BitVec 32) (v541 : IVec S256x1 32) (v555 : IVec S256x1 1) (v559 : IVec S256x1 1)  {Q : _ → sProp 𝕄} :
    iprop(held m ρ c ∗ ((held m ρ c) -∗ Q ((k0_pay38 v2 v68 v72 v541 v555 v559 (xRow c 5 (ax m ρ c)) (iRow c 5 (aid m ρ c)) (pRow c 5 (ap m ρ c))))))
      ⊢ wp frame (wpE (defs₀ (F := F)) 𝒱₀ (c : Thread nD τ) none) Set.univ (k0_part15 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v68 v72 v534 v535 v541 v555 v559) Q := by
  simp only [k0_part15_eq_skeleton]; unfold k0_part15_skel
  simp only [Prog.lift, Prog.bind_op, Prog.bind_ret, Prog.pure_eq_ret]
  iintro ⟨Hh, Hk⟩
  iapply (wp_ldx m ρ c) $$ Hh; iintro Hh
  iapply (wp_ldi m ρ c) $$ Hh; iintro Hh
  iapply (wp_ldp m ρ c) $$ Hh; iintro Hh
  rw [wp_ret]; imodintro
  iapply Hk
  iexact Hh

theorem part16 (c : Dev nD) (v2 : BitVec 32) (v534 : BitVec 32) (v608 : FVec F S64x4096 .bf16) (hv : (k0_pay39 v608 (aw m ρ c)) = stgAt m ρ c 5) (W : Waits sig Unit) {Q : _ → sProp 𝕄} :
    iprop(records m ρ K ∗ (∃ X, sOwn c 5 X) ∗ sndTok c 5 ∗ owes (c : Thread nD τ) (oweR c [5, 6]) W ∗ held m ρ c ∗ ((cred (tallyAt (sendCell c 5) () N) ∗ owes (c : Thread nD τ) (oweR c [6]) W ∗ held m ρ c) -∗ Q (⟨(Scalar.remsi (Scalar.addi v2 7#32) 8#32), (Scalar.muli (Scalar.remsi (Scalar.addi v2 7#32) 8#32) 256#32), k0_pay40 (iRow c 6 (aid m ρ c)), 8#32, k0_pay41 (iRow c 6 (aid m ρ c)), k0_pay42 (iRow c 6 (aid m ρ c)), (Scalar.cmpi .sgt 8#32 0#32)⟩)))
      ⊢ wp frame (wpE (defs₀ (F := F)) 𝒱₀ (c : Thread nD τ) none) Set.univ (k0_part16 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v534 v608) Q := by
  simp only [k0_part16_eq_skeleton]; unfold k0_part16_skel
  simp only [Prog.lift, Prog.bind_op, Prog.bind_ret, Prog.pure_eq_ret]
  iintro ⟨#HR, HS5, HT5, HO, Hh, Hk⟩
  iapply (wp_ldw m ρ c) $$ Hh; iintro Hh
  iapply (wp_lds c 5) $$ HS5; iintro %_ HS5
  iapply (wp_sts' c 5 _ _ hv) $$ HS5; iintro HG5
  unfold sndTok; icases HT5 with ⟨HT5, HTa, HTb⟩
  iapply (wp_cp m ρ K c _ 5 [6] (dev13_eq c) W) $$ [HG5 HT5 HO HTa HTb]
  · isplitr; · iexact HR
    isplitl [HG5]; · iexact HG5
    isplitl [HT5]; · iexact HT5
    isplitl [HO]; · iexact HO
    isplitl [HTa]; · iexact HTa
    iexact HTb
  iintro ⟨HC5, HO⟩
  iapply (wp_ldi m ρ c) $$ Hh; iintro Hh
  rw [wp_ret]; imodintro
  iapply Hk
  isplitl [HC5]; · iexact HC5
  isplitl [HO]; · iexact HO
  iexact Hh

theorem part17 (c : Dev nD) (v2 : BitVec 32) (v68 : FVec F S256x256 .bf16) (v72 : FVec F S256x64 .f32) (v626 : BitVec 32) (v627 : BitVec 32) (v631 : IVec S256x1 32) (c8_i32_273 : BitVec 32) (v633 : IVec S256x1 32) (v640 : IVec S256x1 32) (v641 : BitVec 1)  {Q : _ → sProp 𝕄} :
    iprop(held m ρ c ∗ ((held m ρ c) -∗ Q (⟨k0_pay43 v2 v68 v72 v631 c8_i32_273 v633 v640 v641, k0_pay44 v2 v68 v72 v631 c8_i32_273 v633 v640 v641 (xRow c 6 (ax m ρ c)), k0_pay45 v2 (iRow c 6 (aid m ρ c)), (Scalar.ofBits .f32 0x00000000#32), k0_pay46 (pRow c 6 (ap m ρ c))⟩)))
      ⊢ wp frame (wpE (defs₀ (F := F)) 𝒱₀ (c : Thread nD τ) none) Set.univ (k0_part17 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v68 v72 v626 v627 v631 c8_i32_273 v633 v640 v641) Q := by
  simp only [k0_part17_eq_skeleton]; unfold k0_part17_skel
  simp only [Prog.lift, Prog.bind_op, Prog.bind_ret, Prog.pure_eq_ret]
  iintro ⟨Hh, Hk⟩
  iapply (wp_ldx m ρ c) $$ Hh; iintro Hh
  iapply (wp_ldi m ρ c) $$ Hh; iintro Hh
  iapply (wp_ldp m ρ c) $$ Hh; iintro Hh
  rw [wp_ret]; imodintro
  iapply Hk
  iexact Hh

theorem part18 (c : Dev nD) (v2 : BitVec 32) (v626 : BitVec 32) (v670 : FVec F S256x64 .bf16) (v675 : FVec F S64x512 .bf16) (v687 : IVec S256x8 1) (cst_288 : F .f32) (v689 : FVec F S256x8 .f32) (hv : (k0_pay47 v670 v675 v687 cst_288 v689 (aw m ρ c)) = stgAt m ρ c 6) (W : Waits sig Unit) {Q : _ → sProp 𝕄} :
    iprop(records m ρ K ∗ (∃ X, sOwn c 6 X) ∗ sndTok c 6 ∗ owes (c : Thread nD τ) (oweR c [6]) W ∗ held m ρ c ∗ ((cred (tallyAt (sendCell c 6) () N) ∗ owes (c : Thread nD τ) (oweR c []) W ∗ held m ρ c) -∗ Q (⟨k0_pay48 (xOwn c (ax m ρ c)), k0_pay49 (xOwn c (ax m ρ c)) (asw m ρ c), (Scalar.muli v2 256#32)⟩)))
      ⊢ wp frame (wpE (defs₀ (F := F)) 𝒱₀ (c : Thread nD τ) none) Set.univ (k0_part18 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v626 v670 v675 v687 cst_288 v689) Q := by
  simp only [k0_part18_eq_skeleton]; unfold k0_part18_skel
  simp only [Prog.lift, Prog.bind_op, Prog.bind_ret, Prog.pure_eq_ret]
  iintro ⟨#HR, HS6, HT6, HO, Hh, Hk⟩
  iapply (wp_ldw m ρ c) $$ Hh; iintro Hh
  iapply (wp_lds c 6) $$ HS6; iintro %_ HS6
  iapply (wp_sts' c 6 _ _ hv) $$ HS6; iintro HG6
  unfold sndTok; icases HT6 with ⟨HT6, HTa, HTb⟩
  iapply (wp_cp m ρ K c _ 6 [] (dev14_eq c) W) $$ [HG6 HT6 HO HTa HTb]
  · isplitr; · iexact HR
    isplitl [HG6]; · iexact HG6
    isplitl [HT6]; · iexact HT6
    isplitl [HO]; · iexact HO
    isplitl [HTa]; · iexact HTa
    iexact HTb
  iintro ⟨HC6, HO⟩
  iapply (wp_ldx m ρ c) $$ Hh; iintro Hh
  iapply (wp_ldsw m ρ c) $$ Hh; iintro Hh
  rw [wp_ret]; imodintro
  iapply Hk
  isplitl [HC6]; · iexact HC6
  isplitl [HO]; · iexact HO
  iexact Hh

theorem part19 (c : Dev nD) (v2 : BitVec 32) (v68 : FVec F S256x256 .bf16) (v72 : FVec F S256x64 .f32) (v720 : FVec F S256x512 .bf16) (v724 : BitVec 32)  {Q : _ → sProp 𝕄} :
    iprop(held m ρ c ∗ ((held m ρ c) -∗ Q (⟨k0_pay50 (iOwn c (aid m ρ c)), k0_pay51 v2 v68 v72 (iOwn c (aid m ρ c)), k0_pay52 v2 v68 v72 v720 (iOwn c (aid m ρ c)), (Scalar.muli v2 256#32), (iOwn c (aid m ρ c))⟩)))
      ⊢ wp frame (wpE (defs₀ (F := F)) 𝒱₀ (c : Thread nD τ) none) Set.univ (k0_part19 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v68 v72 v720 v724) Q := by
  simp only [k0_part19_eq_skeleton]; unfold k0_part19_skel
  simp only [Prog.lift, Prog.bind_op, Prog.bind_ret, Prog.pure_eq_ret]
  iintro ⟨Hh, Hk⟩
  iapply (wp_ldi m ρ c) $$ Hh; iintro Hh
  iapply (wp_ldi m ρ c) $$ Hh; iintro Hh
  rw [wp_ret]; imodintro
  iapply Hk
  iexact Hh

theorem part20 (c : Dev nD) (v2 : BitVec 32) (v68 : FVec F S256x256 .bf16) (v72 : FVec F S256x64 .f32) (v723 : FVec F S256x1024 .f32) (v751 : IVec S256x1 32) (v766 : FVec F S256x64 .bf16) (v768 : FVec F S64x512 .bf16) (v769 : BitVec 32) (v771 : Vec F S256x1 .i32)  {Q : _ → sProp 𝕄} :
    iprop(held m ρ c ∗ ((held m ρ c) -∗ Q (⟨k0_pay53 v2 v723 v766 v768 v771 (pOwn c (ap m ρ c)) (aw m ρ c), k0_pay54 v2 v68 v72 v751, (Scalar.addi v2 8#32)⟩)))
      ⊢ wp frame (wpE (defs₀ (F := F)) 𝒱₀ (c : Thread nD τ) none) Set.univ (k0_part20 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 c v2 v68 v72 v723 v751 v766 v768 v769 v771) Q := by
  simp only [k0_part20_eq_skeleton]; unfold k0_part20_skel
  simp only [Prog.lift, Prog.bind_op, Prog.bind_ret, Prog.pure_eq_ret]
  iintro ⟨Hh, Hk⟩
  iapply (wp_ldp m ρ c) $$ Hh; iintro Hh
  iapply (wp_ldw m ρ c) $$ Hh; iintro Hh
  rw [wp_ret]; imodintro
  iapply Hk
  iexact Hh

theorem part21 (c : Dev nD) (v2 : BitVec 32) (v68 : FVec F S256x256 .bf16) (v72 : FVec F S256x64 .f32) (v751 : IVec S256x1 32) (v817 : BitVec 32)  {Q : _ → sProp 𝕄} :
    iprop(Q (⟨k0_pay55 v68 v72 v751 v817, k0_pay56 v2 v68 v72 v751, k0_pay57 (F := F) v2 v751, k0_pay58 v2 v68 v72 v751, (Scalar.ofBits .bf16 0x0000#16)⟩))
      ⊢ wp frame (wpE (defs₀ (F := F)) 𝒱₀ (c : Thread nD τ) none) Set.univ (k0_part21 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 v2 v68 v72 v751 v817) Q := by
  simp only [k0_part21_eq_skeleton]; unfold k0_part21_skel
  simp only [Prog.lift, Prog.bind_op, Prog.bind_ret, Prog.pure_eq_ret]
  iintro Hk
  rw [wp_ret]; imodintro
  iapply Hk

theorem part22 (c : Dev nD) (v2 : BitVec 32) (v68 : FVec F S256x256 .bf16) (v72 : FVec F S256x64 .f32) (v751 : IVec S256x1 32) (v860 : FVec F S256x1 .bf16) (v863 : IVec S256x64 1) (cst_351 : F .bf16)  {Q : _ → sProp 𝕄} :
    iprop(Q (⟨k0_pay59 v860 v863 cst_351, k0_pay60 v2 v68 v72 v751, k0_pay61 v2 v68 v72 v751, k0_pay62 v2⟩))
      ⊢ wp frame (wpE (defs₀ (F := F)) 𝒱₀ (c : Thread nD τ) none) Set.univ (k0_part22 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 v2 v68 v72 v751 v860 v863 cst_351) Q := by
  simp only [k0_part22_eq_skeleton]; unfold k0_part22_skel
  simp only [Prog.lift, Prog.bind_op, Prog.bind_ret, Prog.pure_eq_ret]
  iintro Hk
  rw [wp_ret]; imodintro
  iapply Hk

theorem part23 (c : Dev nD) (v68 : FVec F S256x256 .bf16) (v72 : FVec F S256x64 .f32) (v74 : BitVec 32) (v166 : BitVec 32) (v751 : IVec S256x1 32) (v798 : FVec F S256x1024 .f32) (v816 : FVec F S256x64 .bf16) (v910 : IVec S256x1 32)  (W : Waits sig Unit) {Q : _ → sProp 𝕄} :
    iprop(records m ρ K ∗ arrPre c 0 ∗ owes (c : Thread nD τ) (0) W ∗ ((atPos ER (recvCell c 0) (0 + 1) ∅ 0 ∗ rOwn c 0 (landAt m ρ c 0) ∗ owes (c : Thread nD τ) (0) (insert (SemLoc.dma (recvS 0), ()) W)) -∗ Q (⟨k0_pay63 v68 v72 v751 v910, k0_pay64 v798 v816 (landAt m ρ c 0)⟩)))
      ⊢ wp frame (wpE (defs₀ (F := F)) 𝒱₀ (c : Thread nD τ) none) Set.univ (k0_part23 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 v68 v72 v74 v166 v751 v798 v816 v910) Q := by
  simp only [k0_part23_eq_skeleton]; unfold k0_part23_skel
  simp only [Prog.lift, Prog.bind_op, Prog.bind_ret, Prog.pure_eq_ret]
  iintro ⟨#HR, HA0, HO, Hk⟩
  unfold arrPre
  icases HA0 with ⟨HA0, HA'⟩
  iapply (wp_arr m ρ K c 0 W (sp := .vmem)) $$ [HA0 HA' HO]
  · isplitr; · iexact HR
    isplitl [HA0]; · iexact HA0
    isplitl [HO]; · iexact HO
    iexact HA'
  iintro ⟨HO, HL0, HR0⟩
  iapply (wp_ldr c 0 _) $$ HR0; iintro HR0
  rw [wp_ret]; imodintro
  iapply Hk
  isplitl [HL0]; · iexact HL0
  isplitl [HR0]; · iexact HR0
  iexact HO

theorem part24 (c : Dev nD) (v258 : BitVec 32) (v350 : BitVec 32) (v834 : FVec F S256x64 .bf16) (v852 : FVec F S256x64 .bf16) (v936 : FVec F S256x1024 .f32)  (W : Waits sig Unit) {Q : _ → sProp 𝕄} :
    iprop(records m ρ K ∗ arrPre c 1 ∗ arrPre c 2 ∗ arrPre c 3 ∗ owes (c : Thread nD τ) (0) W ∗ ((atPos ER (recvCell c 1) (0 + 1) ∅ 0 ∗ rOwn c 1 (landAt m ρ c 1) ∗ atPos ER (recvCell c 2) (0 + 1) ∅ 0 ∗ rOwn c 2 (landAt m ρ c 2) ∗ atPos ER (recvCell c 3) (0 + 1) ∅ 0 ∗ rOwn c 3 (landAt m ρ c 3) ∗ owes (c : Thread nD τ) (0) (insert (SemLoc.dma (recvS 3), ()) (insert (SemLoc.dma (recvS 2), ()) (insert (SemLoc.dma (recvS 1), ()) W)))) -∗ Q (⟨k0_pay65 v834 v852 v936 (landAt m ρ c 1) (landAt m ρ c 2), (landAt m ρ c 3)⟩)))
      ⊢ wp frame (wpE (defs₀ (F := F)) 𝒱₀ (c : Thread nD τ) none) Set.univ (k0_part24 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 v258 v350 v834 v852 v936) Q := by
  simp only [k0_part24_eq_skeleton]; unfold k0_part24_skel
  simp only [Prog.lift, Prog.bind_op, Prog.bind_ret, Prog.pure_eq_ret]
  iintro ⟨#HR, HA1, HA2, HA3, HO, Hk⟩
  unfold arrPre
  icases HA1 with ⟨HA1, HA'⟩
  iapply (wp_arr m ρ K c 1 W (sp := .vmem)) $$ [HA1 HA' HO]
  · isplitr; · iexact HR
    isplitl [HA1]; · iexact HA1
    isplitl [HO]; · iexact HO
    iexact HA'
  iintro ⟨HO, HL1, HR1⟩
  iapply (wp_ldr c 1 _) $$ HR1; iintro HR1
  icases HA2 with ⟨HA2, HA'⟩
  iapply (wp_arr m ρ K c 2 (insert (SemLoc.dma (recvS 1), ()) W) (sp := .vmem)) $$ [HA2 HA' HO]
  · isplitr; · iexact HR
    isplitl [HA2]; · iexact HA2
    isplitl [HO]; · iexact HO
    iexact HA'
  iintro ⟨HO, HL2, HR2⟩
  iapply (wp_ldr c 2 _) $$ HR2; iintro HR2
  icases HA3 with ⟨HA3, HA'⟩
  iapply (wp_arr m ρ K c 3 (insert (SemLoc.dma (recvS 2), ()) (insert (SemLoc.dma (recvS 1), ()) W)) (sp := .vmem)) $$ [HA3 HA' HO]
  · isplitr; · iexact HR
    isplitl [HA3]; · iexact HA3
    isplitl [HO]; · iexact HO
    iexact HA'
  iintro ⟨HO, HL3, HR3⟩
  iapply (wp_ldr c 3 _) $$ HR3; iintro HR3
  rw [wp_ret]; imodintro
  iapply Hk
  isplitl [HL1]; · iexact HL1
  isplitl [HR1]; · iexact HR1
  isplitl [HL2]; · iexact HL2
  isplitl [HR2]; · iexact HR2
  isplitl [HL3]; · iexact HL3
  isplitl [HR3]; · iexact HR3
  iexact HO

theorem part25 (c : Dev nD) (v442 : BitVec 32) (v534 : BitVec 32) (v870 : FVec F S256x64 .bf16) (v888 : FVec F S256x64 .bf16) (v906 : FVec F S256x64 .bf16) (v960 : FVec F S256x1024 .f32) (v969 : Vec F S1x64x1024 .bf16)  (W : Waits sig Unit) {Q : _ → sProp 𝕄} :
    iprop(records m ρ K ∗ arrPre c 4 ∗ arrPre c 5 ∗ owes (c : Thread nD τ) (0) W ∗ ((atPos ER (recvCell c 4) (0 + 1) ∅ 0 ∗ rOwn c 4 (landAt m ρ c 4) ∗ atPos ER (recvCell c 5) (0 + 1) ∅ 0 ∗ rOwn c 5 (landAt m ρ c 5) ∗ owes (c : Thread nD τ) (0) (insert (SemLoc.dma (recvS 5), ()) (insert (SemLoc.dma (recvS 4), ()) W))) -∗ Q ((k0_pay66 v870 v888 v906 v960 v969 (landAt m ρ c 4) (landAt m ρ c 5)))))
      ⊢ wp frame (wpE (defs₀ (F := F)) 𝒱₀ (c : Thread nD τ) none) Set.univ (k0_part25 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 v442 v534 v870 v888 v906 v960 v969) Q := by
  simp only [k0_part25_eq_skeleton]; unfold k0_part25_skel
  simp only [Prog.lift, Prog.bind_op, Prog.bind_ret, Prog.pure_eq_ret]
  iintro ⟨#HR, HA4, HA5, HO, Hk⟩
  unfold arrPre
  icases HA4 with ⟨HA4, HA'⟩
  iapply (wp_arr m ρ K c 4 W (sp := .vmem)) $$ [HA4 HA' HO]
  · isplitr; · iexact HR
    isplitl [HA4]; · iexact HA4
    isplitl [HO]; · iexact HO
    iexact HA'
  iintro ⟨HO, HL4, HR4⟩
  iapply (wp_ldr c 4 _) $$ HR4; iintro HR4
  icases HA5 with ⟨HA5, HA'⟩
  iapply (wp_arr m ρ K c 5 (insert (SemLoc.dma (recvS 4), ()) W) (sp := .vmem)) $$ [HA5 HA' HO]
  · isplitr; · iexact HR
    isplitl [HA5]; · iexact HA5
    isplitl [HO]; · iexact HO
    iexact HA'
  iintro ⟨HO, HL5, HR5⟩
  iapply (wp_ldr c 5 _) $$ HR5; iintro HR5
  rw [wp_ret]; imodintro
  iapply Hk
  isplitl [HL4]; · iexact HL4
  isplitl [HR4]; · iexact HR4
  isplitl [HL5]; · iexact HL5
  isplitl [HR5]; · iexact HR5
  iexact HO

theorem part26 (c : Dev nD) (v626 : BitVec 32) (v924 : FVec F S256x64 .bf16) (v996 : FVec F S256x1024 .f32) (hv : (k0_pay67 v924 v996 (landAt m ρ c 6)) = outAt m ρ c) (W : Waits sig Unit) {Q : _ → sProp 𝕄} :
    iprop(records m ρ K ∗ arrPre c 6 ∗ (∃ X, oOwn c X) ∗ cred (tallyAt (sendCell c 0) () N) ∗ atPos ER (sendCell c 0) 0 ∅ 0 ∗ owes (c : Thread nD τ) (0) W ∗ ((atPos ER (recvCell c 6) (0 + 1) ∅ 0 ∗ rOwn c 6 (landAt m ρ c 6) ∗ oOwn c (outAt m ρ c) ∗ atPos ER (sendCell c 0) (0 + 1) ∅ 0 ∗ sOwn c 0 (stgAt m ρ c 0) ∗ owes (c : Thread nD τ) (0) (insert (SemLoc.dma (sendS 0), ()) (insert (SemLoc.dma (recvS 6), ()) W))) -∗ Q (⟨⟩)))
      ⊢ wp frame (wpE (defs₀ (F := F)) 𝒱₀ (c : Thread nD τ) none) Set.univ (k0_part26 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5 v626 v924 v996) Q := by
  simp only [k0_part26_eq_skeleton]; unfold k0_part26_skel
  simp only [Prog.lift, Prog.bind_op, Prog.bind_ret, Prog.pure_eq_ret]
  iintro ⟨#HR, HA6, HO0, HC0, HP0, HO, Hk⟩
  unfold arrPre
  icases HA6 with ⟨HA6, HA'⟩
  iapply (wp_arr m ρ K c 6 W (sp := .vmem)) $$ [HA6 HA' HO]
  · isplitr; · iexact HR
    isplitl [HA6]; · iexact HA6
    isplitl [HO]; · iexact HO
    iexact HA'
  iintro ⟨HO, HL6, HR6⟩
  iapply (wp_ldr c 6 _) $$ HR6; iintro HR6
  iapply (wp_ldo c) $$ HO0; iintro %_ HO0
  iapply (wp_sto c _ _ hv) $$ HO0; iintro HU0
  iapply (wp_dep m ρ K c 0 (insert (SemLoc.dma (recvS 6), ()) W) (sp := .vmem)) $$ [HC0 HP0 HO]
  · isplitr; · iexact HR
    isplitl [HC0]; · iexact HC0
    isplitl [HO]; · iexact HO
    iexact HP0
  iintro ⟨HO, HZ0, HG0⟩
  rw [wp_ret]; imodintro
  iapply Hk
  isplitl [HL6]; · iexact HL6
  isplitl [HR6]; · iexact HR6
  isplitl [HU0]; · iexact HU0
  isplitl [HZ0]; · iexact HZ0
  isplitl [HG0]; · iexact HG0
  iexact HO

theorem part27 (c : Dev nD)   (W : Waits sig Unit) {Q : _ → sProp 𝕄} :
    iprop(records m ρ K ∗ cred (tallyAt (sendCell c 1) () N) ∗ atPos ER (sendCell c 1) 0 ∅ 0 ∗ cred (tallyAt (sendCell c 2) () N) ∗ atPos ER (sendCell c 2) 0 ∅ 0 ∗ cred (tallyAt (sendCell c 3) () N) ∗ atPos ER (sendCell c 3) 0 ∅ 0 ∗ cred (tallyAt (sendCell c 4) () N) ∗ atPos ER (sendCell c 4) 0 ∅ 0 ∗ owes (c : Thread nD τ) (0) W ∗ ((atPos ER (sendCell c 1) (0 + 1) ∅ 0 ∗ sOwn c 1 (stgAt m ρ c 1) ∗ atPos ER (sendCell c 2) (0 + 1) ∅ 0 ∗ sOwn c 2 (stgAt m ρ c 2) ∗ atPos ER (sendCell c 3) (0 + 1) ∅ 0 ∗ sOwn c 3 (stgAt m ρ c 3) ∗ atPos ER (sendCell c 4) (0 + 1) ∅ 0 ∗ sOwn c 4 (stgAt m ρ c 4) ∗ owes (c : Thread nD τ) (0) (insert (SemLoc.dma (sendS 4), ()) (insert (SemLoc.dma (sendS 3), ()) (insert (SemLoc.dma (sendS 2), ()) (insert (SemLoc.dma (sendS 1), ()) W))))) -∗ Q (⟨⟩)))
      ⊢ wp frame (wpE (defs₀ (F := F)) 𝒱₀ (c : Thread nD τ) none) Set.univ (k0_part27 (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5) Q := by
  simp only [k0_part27_eq_skeleton]; unfold k0_part27_skel
  simp only [Prog.lift, Prog.bind_op, Prog.bind_ret, Prog.pure_eq_ret]
  iintro ⟨#HR, HC1, HP1, HC2, HP2, HC3, HP3, HC4, HP4, HO, Hk⟩
  iapply (wp_dep m ρ K c 1 W (sp := .vmem)) $$ [HC1 HP1 HO]
  · isplitr; · iexact HR
    isplitl [HC1]; · iexact HC1
    isplitl [HO]; · iexact HO
    iexact HP1
  iintro ⟨HO, HZ1, HG1⟩
  iapply (wp_dep m ρ K c 2 (insert (SemLoc.dma (sendS 1), ()) W) (sp := .vmem)) $$ [HC2 HP2 HO]
  · isplitr; · iexact HR
    isplitl [HC2]; · iexact HC2
    isplitl [HO]; · iexact HO
    iexact HP2
  iintro ⟨HO, HZ2, HG2⟩
  iapply (wp_dep m ρ K c 3 (insert (SemLoc.dma (sendS 2), ()) (insert (SemLoc.dma (sendS 1), ()) W)) (sp := .vmem)) $$ [HC3 HP3 HO]
  · isplitr; · iexact HR
    isplitl [HC3]; · iexact HC3
    isplitl [HO]; · iexact HO
    iexact HP3
  iintro ⟨HO, HZ3, HG3⟩
  iapply (wp_dep m ρ K c 4 (insert (SemLoc.dma (sendS 3), ()) (insert (SemLoc.dma (sendS 2), ()) (insert (SemLoc.dma (sendS 1), ()) W))) (sp := .vmem)) $$ [HC4 HP4 HO]
  · isplitr; · iexact HR
    isplitl [HC4]; · iexact HC4
    isplitl [HO]; · iexact HO
    iexact HP4
  iintro ⟨HO, HZ4, HG4⟩
  rw [wp_ret]; imodintro
  iapply Hk
  isplitl [HZ1]; · iexact HZ1
  isplitl [HG1]; · iexact HG1
  isplitl [HZ2]; · iexact HZ2
  isplitl [HG2]; · iexact HG2
  isplitl [HZ3]; · iexact HZ3
  isplitl [HG3]; · iexact HG3
  isplitl [HZ4]; · iexact HZ4
  isplitl [HG4]; · iexact HG4
  iexact HO

end Cert.KernelIdeal.Moe

end
-- ==== Proof.IBody.lean ====
/-
The kernel's body, its parts in turn: from the tokens, the slots and the staged arguments to the
result, the landed blocks and every semaphore's round closed.
-/
module

public import proofs.«01_k».proof.Proof.IParts

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 15 → ℕ)

theorem val3 (c : Dev nD) : k0_pay6 (k0_pay2 (ax m ρ c) (arw m ρ c)) (k0_pay3 (ax m ρ c) (arw m ρ c)) (k0_pay4 (aid m ρ c)) k0_pay5 = ap m ρ c := rfl
theorem val5 (c : Dev nD) : (k0_pay14 ((k0_pay13 (me c) k0_pay7 k0_pay8 (k0_pay10 (iRow c 0 (aid m ρ c))) (k0_pay11 (iRow c 0 (aid m ρ c))) (k0_pay12 (iRow c 0 (aid m ρ c))) (xRow c 0 (ax m ρ c)) (iRow c 0 (aid m ρ c)) (pRow c 0 (ap m ρ c)))) (aw m ρ c)) = stgAt m ρ c 0 := rfl
theorem val7 (c : Dev nD) : (k0_pay22 (k0_pay18 (me c) k0_pay7 k0_pay8 (k0_pay15 (iRow c 1 (aid m ρ c))) 8#32 (k0_pay16 (iRow c 1 (aid m ρ c))) (k0_pay17 (iRow c 1 (aid m ρ c))) ((Scalar.cmpi .sgt 8#32 0#32))) (k0_pay19 (me c) k0_pay7 k0_pay8 (k0_pay15 (iRow c 1 (aid m ρ c))) 8#32 (k0_pay16 (iRow c 1 (aid m ρ c))) (k0_pay17 (iRow c 1 (aid m ρ c))) ((Scalar.cmpi .sgt 8#32 0#32)) (xRow c 1 (ax m ρ c))) (k0_pay20 (me c) (iRow c 1 (aid m ρ c))) ((Scalar.ofBits .f32 0x00000000#32)) (k0_pay21 (pRow c 1 (ap m ρ c))) (aw m ρ c)) = stgAt m ρ c 1 := rfl
theorem val9 (c : Dev nD) : (k0_pay28 (me c) (k0_pay25 (me c) k0_pay7 k0_pay8 (k0_pay23 (iRow c 2 (aid m ρ c))) 8#32 k0_pay24) (k0_pay26 (me c) k0_pay7 k0_pay8 (k0_pay23 (iRow c 2 (aid m ρ c))) 8#32 k0_pay24 (xRow c 2 (ax m ρ c))) (k0_pay27 (iRow c 2 (aid m ρ c))) (pRow c 2 (ap m ρ c)) (aw m ρ c)) = stgAt m ρ c 2 := rfl
theorem val11 (c : Dev nD) : (k0_pay30 (me c) (k0_pay29 (me c) k0_pay7 k0_pay8 (iRow c 3 (aid m ρ c))) (xRow c 3 (ax m ρ c)) (iRow c 3 (aid m ρ c)) (pRow c 3 (ap m ρ c)) (aw m ρ c)) = stgAt m ρ c 3 := rfl
theorem val14 (c : Dev nD) : ((k0_pay33 (me c) k0_pay8 (k0_pay31 (me c) (iRow c 4 (aid m ρ c))) (k0_pay32 (me c) k0_pay7 (iRow c 4 (aid m ρ c))) (xRow c 4 (ax m ρ c)) (iRow c 4 (aid m ρ c)) (pRow c 4 (ap m ρ c)) (aw m ρ c))) = stgAt m ρ c 4 := rfl
theorem val16 (c : Dev nD) : (k0_pay39 ((k0_pay38 (me c) k0_pay7 k0_pay8 (k0_pay35 (iRow c 5 (aid m ρ c))) (k0_pay36 (iRow c 5 (aid m ρ c))) (k0_pay37 (iRow c 5 (aid m ρ c))) (xRow c 5 (ax m ρ c)) (iRow c 5 (aid m ρ c)) (pRow c 5 (ap m ρ c)))) (aw m ρ c)) = stgAt m ρ c 5 := rfl
theorem val18 (c : Dev nD) : (k0_pay47 (k0_pay43 (me c) k0_pay7 k0_pay8 (k0_pay40 (iRow c 6 (aid m ρ c))) 8#32 (k0_pay41 (iRow c 6 (aid m ρ c))) (k0_pay42 (iRow c 6 (aid m ρ c))) ((Scalar.cmpi .sgt 8#32 0#32))) (k0_pay44 (me c) k0_pay7 k0_pay8 (k0_pay40 (iRow c 6 (aid m ρ c))) 8#32 (k0_pay41 (iRow c 6 (aid m ρ c))) (k0_pay42 (iRow c 6 (aid m ρ c))) ((Scalar.cmpi .sgt 8#32 0#32)) (xRow c 6 (ax m ρ c))) (k0_pay45 (me c) (iRow c 6 (aid m ρ c))) ((Scalar.ofBits .f32 0x00000000#32)) (k0_pay46 (pRow c 6 (ap m ρ c))) (aw m ρ c)) = stgAt m ρ c 6 := rfl
theorem val26 (c : Dev nD) : (k0_pay67 (k0_pay63 k0_pay7 k0_pay8 (k0_pay50 (iOwn c (aid m ρ c))) (k0_pay62 (me c))) ((k0_pay66 (k0_pay59 (k0_pay57 (F := F) (me c) (k0_pay50 (iOwn c (aid m ρ c)))) (k0_pay58 (F := F) (me c) k0_pay7 k0_pay8 (k0_pay50 (iOwn c (aid m ρ c)))) ((Scalar.ofBits .bf16 0x0000#16))) (k0_pay60 (me c) k0_pay7 k0_pay8 (k0_pay50 (iOwn c (aid m ρ c)))) (k0_pay61 (me c) k0_pay7 k0_pay8 (k0_pay50 (iOwn c (aid m ρ c)))) (k0_pay65 (k0_pay55 k0_pay7 k0_pay8 (k0_pay50 (iOwn c (aid m ρ c))) ((Scalar.addi (me c) 8#32))) (k0_pay56 (me c) k0_pay7 k0_pay8 (k0_pay50 (iOwn c (aid m ρ c)))) (k0_pay64 (k0_pay53 (me c) (k0_pay49 (xOwn c (ax m ρ c)) (asw m ρ c)) (k0_pay51 (me c) k0_pay7 k0_pay8 (iOwn c (aid m ρ c))) (k0_pay52 (me c) k0_pay7 k0_pay8 (k0_pay48 (xOwn c (ax m ρ c))) (iOwn c (aid m ρ c))) ((iOwn c (aid m ρ c))) (pOwn c (ap m ρ c)) (aw m ρ c)) (k0_pay54 (me c) k0_pay7 k0_pay8 (k0_pay50 (iOwn c (aid m ρ c)))) (landAt m ρ c 0)) (landAt m ρ c 1) (landAt m ρ c 2)) ((landAt m ρ c 3)) (landAt m ρ c 4) (landAt m ρ c 5))) (landAt m ρ c 6)) = outAt m ρ c := rfl

/-- The two tokens of a copy. -/
def payTok (c : Dev nD) (j : Fin 7) : sProp 𝕄 := iprop(dutyTok ER (sendCell c j) 0 0 ∗ dutyTok ER (recvCell (up j c) j) 0 0)

/-- A slot of another device and the two tokens are what a copy uses up. -/
theorem sndTok_intro (c : Dev nD) (j : Fin 7) : iprop(barPay (F := F) c j ∗ payTok c j) ⊢ (sndTok c j : sProp 𝕄) := by
  unfold barPay payTok sndTok
  iintro ⟨⟨HX, -⟩, Ha, Hb⟩
  isplitl [HX]; · iexact HX
  isplitl [Ha]; · iexact Ha
  iexact Hb

def corePre (c : Dev nD) (W : Waits sig Unit) : sProp 𝕄 :=
  iprop(owes (c : Thread nD τ) (O₀ c) W ∗ sigTok c 0 ∗ sigTok c 1 ∗ sigTok c 2 ∗ sigTok c 3 ∗ sigTok c 4 ∗ sigTok c 5 ∗ sigTok c 6 ∗ cred (tallyAt (barCell c) () 7) ∗ atPos ER (barCell c) 0 ∅ 0 ∗ full c cc0_stg0_0 (ax m ρ c) ∗ full c cc0_stg1_0 (arw m ρ c) ∗ full c cc0_stg2_0 (aid m ρ c) ∗ full c cc0_stg3_0 (aew m ρ c) ∗ full c cc0_stg4_0 (asw m ρ c) ∗ (∃ X, oOwn c X) ∗ (∃ f, full c cc0_scratch0 f) ∗ (∃ f, full c cc0_scratch1 f) ∗ (∃ X, sOwn c 0 X) ∗ (∃ X, sOwn c 1 X) ∗ (∃ X, sOwn c 2 X) ∗ (∃ X, sOwn c 3 X) ∗ (∃ X, sOwn c 4 X) ∗ (∃ X, sOwn c 5 X) ∗ (∃ X, sOwn c 6 X) ∗ payTok c 0 ∗ payTok c 1 ∗ payTok c 2 ∗ payTok c 3 ∗ payTok c 4 ∗ payTok c 5 ∗ payTok c 6 ∗ arrPre c 0 ∗ arrPre c 1 ∗ arrPre c 2 ∗ arrPre c 3 ∗ arrPre c 4 ∗ arrPre c 5 ∗ arrPre c 6 ∗ atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0)
def corePost (c : Dev nD) (W : Waits sig Unit) : sProp 𝕄 :=
  iprop(owes (c : Thread nD τ) 0 (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))))))))) ∗ atPos ER (barCell c) (0 + 1) ∅ 0 ∗ atPos ER (sendCell c 0) (0 + 1) ∅ 0 ∗ atPos ER (sendCell c 1) (0 + 1) ∅ 0 ∗ atPos ER (sendCell c 2) (0 + 1) ∅ 0 ∗ atPos ER (sendCell c 3) (0 + 1) ∅ 0 ∗ atPos ER (sendCell c 4) (0 + 1) ∅ 0 ∗ atPos ER (sendCell c 5) (0 + 1) ∅ 0 ∗ atPos ER (sendCell c 6) (0 + 1) ∅ 0 ∗ atPos ER (recvCell c 0) (0 + 1) ∅ 0 ∗ atPos ER (recvCell c 1) (0 + 1) ∅ 0 ∗ atPos ER (recvCell c 2) (0 + 1) ∅ 0 ∗ atPos ER (recvCell c 3) (0 + 1) ∅ 0 ∗ atPos ER (recvCell c 4) (0 + 1) ∅ 0 ∗ atPos ER (recvCell c 5) (0 + 1) ∅ 0 ∗ atPos ER (recvCell c 6) (0 + 1) ∅ 0 ∗ sOwn c 0 (stgAt m ρ c 0) ∗ sOwn c 1 (stgAt m ρ c 1) ∗ sOwn c 2 (stgAt m ρ c 2) ∗ sOwn c 3 (stgAt m ρ c 3) ∗ sOwn c 4 (stgAt m ρ c 4) ∗ sOwn c 5 (stgAt m ρ c 5) ∗ sOwn c 6 (stgAt m ρ c 6) ∗ rOwn c 0 (landAt m ρ c 0) ∗ rOwn c 1 (landAt m ρ c 1) ∗ rOwn c 2 (landAt m ρ c 2) ∗ rOwn c 3 (landAt m ρ c 3) ∗ rOwn c 4 (landAt m ρ c 4) ∗ rOwn c 5 (landAt m ρ c 5) ∗ rOwn c 6 (landAt m ρ c 6) ∗ full c cc0_stg1_0 (arw m ρ c) ∗ full c cc0_stg3_0 (aew m ρ c) ∗ oOwn c (outAt m ρ c) ∗ held m ρ c)

set_option maxHeartbeats 4000000 in
/-- The body from what it needs to what it leaves. -/
theorem body_core (c : Dev nD) (W : Waits sig Unit) {Q : PUnit → sProp 𝕄} :
    iprop(records m ρ K ∗ levAts L lv ∗ corePre m ρ c W ∗ (corePost m ρ c W -∗ Q ⟨⟩))
      ⊢ wp frame (wpE (defs₀ (F := F)) 𝒱₀ (c : Thread nD τ) none) Set.univ (cc0_body (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5) Q := by
  simp only [cc0_body_eq_skeleton]; unfold cc0_body_skel corePre
  iintro ⟨#HR, #Hlev, ⟨HO, HB0, HB1, HB2, HB3, HB4, HB5, HB6, Hc, Hat, Hx, Hr, Hi, He, Hs, HO0, Hw, Hp, HS0, HS1, HS2, HS3, HS4, HS5, HS6, HT0, HT1, HT2, HT3, HT4, HT5, HT6, HA0, HA1, HA2, HA3, HA4, HA5, HA6, HP0, HP1, HP2, HP3, HP4, HP5, HP6⟩, Hk⟩
  rw [wp_bind]
  iapply (part1 m ρ K c W)
  isplitr; · iexact HR
  isplitl [HO]; · iexact HO
  isplitl [HB6]; · iexact HB6
  isplitl [HB5]; · iexact HB5
  isplitl [HB4]; · iexact HB4
  isplitl [HB3]; · iexact HB3
  isplitl [HB2]; · iexact HB2
  iintro HO
  try dsimp only
  rw [wp_bind]
  iapply (part2 m ρ K c _ _ _ W)
  isplitr; · iexact HR
  isplitr; · iexact Hlev
  isplitl [HO]; · iexact HO
  isplitl [HB1]; · iexact HB1
  isplitl [HB0]; · iexact HB0
  isplitl [Hc]; · iexact Hc
  isplitl [Hat]; · iexact Hat
  isplitl [Hx]; · iexact Hx
  isplitl [Hr]; · iexact Hr
  isplitl [Hi]; · iexact Hi
  isplitl [He]; · iexact He
  isplitl [Hw]; · iexact Hw
  iintro ⟨HO, Hat, Hpay, Hx, Hr, Hi, He, Hw⟩
  try dsimp only
  ihave Hpay := (Entails.of_eq (bigSep_fin7 fun d => barPay (F := F) c d)) $$ Hpay
  icases Hpay with ⟨HY0, HY1, HY2, HY3, HY4, HY5, HY6⟩
  ihave HT0 := (sndTok_intro c 0) $$ [HY0 HT0]
  · isplitl [HY0]; · iexact HY0
    iexact HT0
  ihave HT1 := (sndTok_intro c 1) $$ [HY1 HT1]
  · isplitl [HY1]; · iexact HY1
    iexact HT1
  ihave HT2 := (sndTok_intro c 2) $$ [HY2 HT2]
  · isplitl [HY2]; · iexact HY2
    iexact HT2
  ihave HT3 := (sndTok_intro c 3) $$ [HY3 HT3]
  · isplitl [HY3]; · iexact HY3
    iexact HT3
  ihave HT4 := (sndTok_intro c 4) $$ [HY4 HT4]
  · isplitl [HY4]; · iexact HY4
    iexact HT4
  ihave HT5 := (sndTok_intro c 5) $$ [HY5 HT5]
  · isplitl [HY5]; · iexact HY5
    iexact HT5
  ihave HT6 := (sndTok_intro c 6) $$ [HY6 HT6]
  · isplitl [HY6]; · iexact HY6
    iexact HT6
  rw [wp_bind]
  iapply (part3 m ρ c _ _ _ _ _ (val3 m ρ c))
  isplitl [Hi]; · iexact Hi
  isplitl [Hp]; · iexact Hp
  iintro ⟨Hi, Hp⟩
  try dsimp only
  ihave Hh : held m ρ c $$ [Hx Hi Hs Hp Hw]
  · unfold held
    isplitl [Hx]; · iexact Hx
    isplitl [Hi]; · iexact Hi
    isplitl [Hs]; · iexact Hs
    isplitl [Hp]; · iexact Hp
    iexact Hw
  rw [wp_bind]
  iapply (part4 m ρ c _ _ _ _ _ _ _ _)
  isplitl [Hh]; · iexact Hh
  iintro Hh
  try dsimp only
  rw [wp_bind]
  iapply (part5 m ρ K c _ _ _ (val5 m ρ c) (insert (SemLoc.reg barS, ()) W))
  isplitr; · iexact HR
  isplitl [HS0]; · iexact HS0
  isplitl [HT0]; · iexact HT0
  isplitl [HO]; · iexact HO
  isplitl [Hh]; · iexact Hh
  iintro ⟨HC0, HO, Hh⟩
  try dsimp only
  rw [wp_bind]
  iapply (part6 m ρ c _ _ _ _ _ _ _ _ _ _)
  isplitl [Hh]; · iexact Hh
  iintro Hh
  try dsimp only
  rw [wp_bind]
  iapply (part7 m ρ K c _ _ _ _ _ _ _ (val7 m ρ c) (insert (SemLoc.reg barS, ()) W))
  isplitr; · iexact HR
  isplitl [HS1]; · iexact HS1
  isplitl [HT1]; · iexact HT1
  isplitl [HO]; · iexact HO
  isplitl [Hh]; · iexact Hh
  iintro ⟨HC1, HO, Hh⟩
  try dsimp only
  rw [wp_bind]
  iapply (part8 m ρ c _ _ _ _ _ _ _ _)
  isplitl [Hh]; · iexact Hh
  iintro Hh
  try dsimp only
  rw [wp_bind]
  iapply (part9 m ρ K c _ _ _ _ _ (val9 m ρ c) (insert (SemLoc.reg barS, ()) W))
  isplitr; · iexact HR
  isplitl [HS2]; · iexact HS2
  isplitl [HT2]; · iexact HT2
  isplitl [HO]; · iexact HO
  isplitl [Hh]; · iexact Hh
  iintro ⟨HC2, HO, Hh⟩
  try dsimp only
  rw [wp_bind]
  iapply (part10 m ρ c _ _ _ _)
  isplitl [Hh]; · iexact Hh
  iintro Hh
  try dsimp only
  rw [wp_bind]
  iapply (part11 m ρ c _ _ _ (val11 m ρ c))
  isplitl [HS3]; · iexact HS3
  isplitl [Hh]; · iexact Hh
  iintro ⟨HG3, Hh⟩
  try dsimp only
  rw [wp_bind]
  iapply (part12 m ρ K c _ _ (insert (SemLoc.reg barS, ()) W))
  isplitr; · iexact HR
  isplitl [HG3]; · iexact HG3
  isplitl [HT3]; · iexact HT3
  isplitl [HO]; · iexact HO
  isplitl [Hh]; · iexact Hh
  iintro ⟨HC3, HO, Hh⟩
  try dsimp only
  rw [wp_bind]
  iapply (part13 m ρ c _ _ _ _ _ _)
  isplitl [HS4]; · iexact HS4
  isplitl [Hh]; · iexact Hh
  iintro ⟨HS4, Hh⟩
  try dsimp only
  rw [wp_bind]
  iapply (part14 m ρ K c _ _ _ (val14 m ρ c) (insert (SemLoc.reg barS, ()) W))
  isplitr; · iexact HR
  isplitl [HS4]; · iexact HS4
  isplitl [HT4]; · iexact HT4
  isplitl [HO]; · iexact HO
  isplitl [Hh]; · iexact Hh
  iintro ⟨HC4, HO, Hh⟩
  try dsimp only
  rw [wp_bind]
  iapply (part15 m ρ c _ _ _ _ _ _ _ _)
  isplitl [Hh]; · iexact Hh
  iintro Hh
  try dsimp only
  rw [wp_bind]
  iapply (part16 m ρ K c _ _ _ (val16 m ρ c) (insert (SemLoc.reg barS, ()) W))
  isplitr; · iexact HR
  isplitl [HS5]; · iexact HS5
  isplitl [HT5]; · iexact HT5
  isplitl [HO]; · iexact HO
  isplitl [Hh]; · iexact Hh
  iintro ⟨HC5, HO, Hh⟩
  try dsimp only
  rw [wp_bind]
  iapply (part17 m ρ c _ _ _ _ _ _ _ _ _ _)
  isplitl [Hh]; · iexact Hh
  iintro Hh
  try dsimp only
  rw [wp_bind]
  iapply (part18 m ρ K c _ _ _ _ _ _ _ (val18 m ρ c) (insert (SemLoc.reg barS, ()) W))
  isplitr; · iexact HR
  isplitl [HS6]; · iexact HS6
  isplitl [HT6]; · iexact HT6
  isplitl [HO]; · iexact HO
  isplitl [Hh]; · iexact Hh
  iintro ⟨HC6, HO, Hh⟩
  try dsimp only
  rw [wp_bind]
  iapply (part19 m ρ c _ _ _ _ _)
  isplitl [Hh]; · iexact Hh
  iintro Hh
  try dsimp only
  rw [wp_bind]
  iapply (part20 m ρ c _ _ _ _ _ _ _ _ _)
  isplitl [Hh]; · iexact Hh
  iintro Hh
  try dsimp only
  rw [wp_bind]
  iapply (part21 c _ _ _ _ _)
  try dsimp only
  rw [wp_bind]
  iapply (part22 c _ _ _ _ _ _ _)
  try dsimp only
  rw [wp_bind]
  iapply (part23 m ρ K c _ _ _ _ _ _ _ _ (insert (SemLoc.reg barS, ()) W))
  isplitr; · iexact HR
  isplitl [HA0]; · iexact HA0
  isplitl [HO]; · iexact HO
  iintro ⟨HL0, HR0, HO⟩
  try dsimp only
  rw [wp_bind]
  iapply (part24 m ρ K c _ _ _ _ _ (insert (SemLoc.dma (recvS 0), ()) (insert (SemLoc.reg barS, ()) W)))
  isplitr; · iexact HR
  isplitl [HA1]; · iexact HA1
  isplitl [HA2]; · iexact HA2
  isplitl [HA3]; · iexact HA3
  isplitl [HO]; · iexact HO
  iintro ⟨HL1, HR1, HL2, HR2, HL3, HR3, HO⟩
  try dsimp only
  rw [wp_bind]
  iapply (part25 m ρ K c _ _ _ _ _ _ _ (insert (SemLoc.dma (recvS 3), ()) (insert (SemLoc.dma (recvS 2), ()) (insert (SemLoc.dma (recvS 1), ()) (insert (SemLoc.dma (recvS 0), ()) (insert (SemLoc.reg barS, ()) W))))))
  isplitr; · iexact HR
  isplitl [HA4]; · iexact HA4
  isplitl [HA5]; · iexact HA5
  isplitl [HO]; · iexact HO
  iintro ⟨HL4, HR4, HL5, HR5, HO⟩
  try dsimp only
  rw [wp_bind]
  iapply (part26 m ρ K c _ _ _ (val26 m ρ c) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))
  isplitr; · iexact HR
  isplitl [HA6]; · iexact HA6
  isplitl [HO0]; · iexact HO0
  isplitl [HC0]; · iexact HC0
  isplitl [HP0]; · iexact HP0
  isplitl [HO]; · iexact HO
  iintro ⟨HL6, HR6, HU0, HZ0, HG0, HO⟩
  try dsimp only
  rw [wp_bind]
  iapply (part27 m ρ K c (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))))
  isplitr; · iexact HR
  isplitl [HC1]; · iexact HC1
  isplitl [HP1]; · iexact HP1
  isplitl [HC2]; · iexact HC2
  isplitl [HP2]; · iexact HP2
  isplitl [HC3]; · iexact HC3
  isplitl [HP3]; · iexact HP3
  isplitl [HC4]; · iexact HC4
  isplitl [HP4]; · iexact HP4
  isplitl [HO]; · iexact HO
  iintro ⟨HZ1, HG1, HZ2, HG2, HZ3, HG3, HZ4, HG4, HO⟩
  try dsimp only
  simp only [Prog.lift, Prog.bind_op, Prog.bind_ret, Prog.pure_eq_ret]
  iapply (wp_dep m ρ K c 5 (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))))))) (sp := .vmem)) $$ [HC5 HP5 HO]
  · isplitr; · iexact HR
    isplitl [HC5]; · iexact HC5
    isplitl [HO]; · iexact HO
    iexact HP5
  iintro ⟨HO, HZ5, HG5⟩
  iapply (wp_dep m ρ K c 6 (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))))) (sp := .vmem)) $$ [HC6 HP6 HO]
  · isplitr; · iexact HR
    isplitl [HC6]; · iexact HC6
    isplitl [HO]; · iexact HO
    iexact HP6
  iintro ⟨HO, HZ6, HG6⟩
  rw [wp_ret]; imodintro
  iapply Hk
  unfold corePost
  isplitl [HO]; · iexact HO
  isplitl [Hat]; · iexact Hat
  isplitl [HZ0]; · iexact HZ0
  isplitl [HZ1]; · iexact HZ1
  isplitl [HZ2]; · iexact HZ2
  isplitl [HZ3]; · iexact HZ3
  isplitl [HZ4]; · iexact HZ4
  isplitl [HZ5]; · iexact HZ5
  isplitl [HZ6]; · iexact HZ6
  isplitl [HL0]; · iexact HL0
  isplitl [HL1]; · iexact HL1
  isplitl [HL2]; · iexact HL2
  isplitl [HL3]; · iexact HL3
  isplitl [HL4]; · iexact HL4
  isplitl [HL5]; · iexact HL5
  isplitl [HL6]; · iexact HL6
  isplitl [HG0]; · iexact HG0
  isplitl [HG1]; · iexact HG1
  isplitl [HG2]; · iexact HG2
  isplitl [HG3]; · iexact HG3
  isplitl [HG4]; · iexact HG4
  isplitl [HG5]; · iexact HG5
  isplitl [HG6]; · iexact HG6
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [Hr]; · iexact Hr
  isplitl [He]; · iexact He
  isplitl [HU0]; · iexact HU0
  iexact Hh

end Cert.KernelIdeal.Moe

end
-- ==== Proof.ILaunch.lean ====
/-
The launch: from the whole devices' memory and semaphores to the schedule's ghost state, the body
between its entry and its exit, and the run of the whole program.
-/
module

public import proofs.«01_k».proof.Proof.IBody
public import proofs.«01_k».proof.Proof.Gen.KernelIdeal.Points
public import Idealize.ShloMosaic.Lib.Pipeline.CollectiveSegs

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The fifteen semaphores of a device -/

omit [FloatOps F] in
theorem sep_assoc_eq (P Q R : sProp 𝕄) : iprop((P ∗ Q) ∗ R) = iprop(P ∗ Q ∗ R) := equiv_iff.mp ⟨BI.sep_assoc, BI.sep_assoc'⟩

omit [FloatOps F] in
/-- A conjunction over a device's semaphores, by their three kinds. -/
theorem bigSep_cells (c : Dev nD) (Φ : GSem nD τ sig → sProp 𝕄) :
    (bigSep Finset.univ fun k : Fin 15 => Φ (kcell (c, k)))
      = iprop(Φ (barCell c) ∗ (bigSep Finset.univ fun j : Fin 7 => Φ (sendCell c j)) ∗ bigSep Finset.univ fun j : Fin 7 => Φ (recvCell c j)) := by
  rw [bigSep_univ_eq_bigSepL [kB, kS 0, kS 1, kS 2, kS 3, kS 4, kS 5, kS 6, kR 0, kR 1, kR 2, kR 3, kR 4, kR 5, kR 6] (by decide) (by decide)
      (fun k : Fin 15 => Φ (kcell (c, k))), bigSep_fin7, bigSep_fin7]
  simp only [sep_assoc_eq]
  simp only [← kcell_S, ← kcell_R, ← kcell_B]
  rfl

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- With every round over, each semaphore's counter is the device's again, at zero. -/
theorem cells_close (K : Dev nD × Fin 15 → ℕ) (c : Dev nD) :
    iprop(records m ρ K ∗ bigSep Finset.univ fun k : Fin 15 => atPos ER (kcell (c, k)) (0 + 1) ∅ 0)
      ⊢ (|={Set.univ}=> bigSep Finset.univ fun k : Fin 15 => semVal (kcell (c, k)) 0 : sProp 𝕄) := by
  have h (k : Fin 15) : iprop(records m ρ K ∗ atPos ER (kcell (c, k)) (0 + 1) ∅ 0) ⊢ (|={Set.univ}=> semVal (kcell (c, k)) 0 : sProp 𝕄) :=
    (sep_mono_left (inv_at m ρ K (c, k))).trans
      (Rounds.cell_close ER (Rd m ρ) (Set.mem_univ (K (c, k))) (fun h => h) (R := 0 + 1) (duties_later m ρ (kcell (c, k))))
  exact (bigSep_with fun k _ => h k).trans (bigSep_fupd _ _)

/-! ## The body between its entry and its exit -/

/-- The four buffers of the kernel's own, at some contents. -/
def scr (c : Dev nD) : sProp 𝕄 :=
  iprop((∃ f, full c cc0_scratch0 f) ∗ (∃ f, full c cc0_scratch1 f) ∗ (∃ f, full c cc0_scratch2 f) ∗ (∃ f, full c cc0_scratch3 f))

def Φ₀ (c : Dev nD) : sProp 𝕄 := iprop(start m ρ c ∗ scr c)
def Φ₁ (c : Dev nD) : sProp 𝕄 := iprop(scr (F := F) c ∗ bigSep Finset.univ fun k : Fin 15 => semVal (kcell (c, k)) 0)

def dats (_ : Fin 1) (c : Dev nD) : Dat τ (Elt F) Unit ℕ UU ℕ cfg0 c where
  A w := (mem₀ m ρ).mem ((cfg0.win w).arr.view.loc (c : Thread nD τ))
  after w _ := match w with
    | ⟨0, _⟩ => ax m ρ c
    | ⟨1, _⟩ => arw m ρ c
    | ⟨2, _⟩ => aid m ρ c
    | ⟨3, _⟩ => aew m ρ c
    | ⟨4, _⟩ => asw m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev t₀ : Fin cfg0.N := t0_0

omit [FloatOps F] in
theorem bigSep_win (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staged arguments and the result's buffer as the body finds them. -/
def stgPre (c : Dev nD) : sProp 𝕄 :=
  iprop((∃ d, stg c cc0_stg0_0 ((dats m ρ 0 c).before (0 : Fin 6) t₀ d)) ∗ (∃ d, stg c cc0_stg1_0 ((dats m ρ 0 c).before (1 : Fin 6) t₀ d)) ∗ (∃ d, stg c cc0_stg2_0 ((dats m ρ 0 c).before (2 : Fin 6) t₀ d)) ∗ (∃ d, stg c cc0_stg3_0 ((dats m ρ 0 c).before (3 : Fin 6) t₀ d)) ∗ (∃ d, stg c cc0_stg4_0 ((dats m ρ 0 c).before (4 : Fin 6) t₀ d)) ∗ (∃ d, stg c cc0_stg5_0 ((dats m ρ 0 c).before (5 : Fin 6) t₀ d)))
def bodyPre (c : Dev nD) : sProp 𝕄 := iprop(Φ₀ m ρ c ∗ (dats m ρ 0 c).owesAt () t₀.castSucc ∗ stgPre m ρ c)
def stgPost (c : Dev nD) : sProp 𝕄 :=
  iprop(stg c cc0_stg0_0 (ax m ρ c) ∗ stg c cc0_stg1_0 (arw m ρ c) ∗ stg c cc0_stg2_0 (aid m ρ c) ∗ stg c cc0_stg3_0 (aew m ρ c) ∗ stg c cc0_stg4_0 (asw m ρ c) ∗ stg c cc0_stg5_0 (outAt m ρ c))
def bodyPost (c : Dev nD) : sProp 𝕄 := iprop(Φ₁ (F := F) c ∗ (dats m ρ 0 c).owesAt () t₀.succ ∗ stgPost m ρ c)

/-- The staged arguments hold the arrays' contents. -/
theorem stg_found (c : Dev nD) : stgPre m ρ c ⊢ iprop(full c cc0_stg0_0 (ax m ρ c) ∗ full c cc0_stg1_0 (arw m ρ c) ∗ full c cc0_stg2_0 (aid m ρ c) ∗ full c cc0_stg3_0 (aew m ρ c) ∗ full c cc0_stg4_0 (asw m ρ c) ∗ ∃ X, oOwn (F := F) c X) := by
  unfold stgPre oOwn
  iintro ⟨⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = ax m ρ c := by rw [h0]; unfold Dat.before; rw [if_pos (fetch0_0 t₀)]; rfl
  subst e0
  have e1 : g1 = arw m ρ c := by rw [h1]; unfold Dat.before; rw [if_pos (fetch0_1 t₀)]; rfl
  subst e1
  have e2 : g2 = aid m ρ c := by rw [h2]; unfold Dat.before; rw [if_pos (fetch0_2 t₀)]; rfl
  subst e2
  have e3 : g3 = aew m ρ c := by rw [h3]; unfold Dat.before; rw [if_pos (fetch0_3 t₀)]; rfl
  subst e3
  have e4 : g4 = asw m ρ c := by rw [h4]; unfold Dat.before; rw [if_pos (fetch0_4 t₀)]; rfl
  subst e4
  isplitl [H0]; · iexact H0
  isplitl [H1]; · iexact H1
  isplitl [H2]; · iexact H2
  isplitl [H3]; · iexact H3
  isplitl [H4]; · iexact H4
  iexists g5; iexact H5

/-- A device's tokens, credits, positions and slots, dealt to the steps that use them. -/
theorem deal (c : Dev nD) (W : Waits sig Unit) :
    iprop(owes (c : Thread nD τ) (O₀ c) W ∗ ats c ∗ payToks c ∗ cred (tallyAt (barCell c) () 7)
        ∗ (bigSep Finset.univ fun j : Fin 7 => cred (tallyAt (recvCell c j) () N)) ∗ scr c ∗ stgPre m ρ c)
      ⊢ corePre m ρ c W := by
  unfold ats payToks scr corePre
  simp only [bigSep_fin7]
  iintro ⟨HO, ⟨Hat, ⟨HP0, HP1, HP2, HP3, HP4, HP5, HP6⟩, ⟨HA0, HA1, HA2, HA3, HA4, HA5, HA6⟩⟩, ⟨⟨HB0, HB1, HB2, HB3, HB4, HB5, HB6⟩, ⟨HT0, HT1, HT2, HT3, HT4, HT5, HT6⟩, ⟨HU0, HU1, HU2, HU3, HU4, HU5, HU6⟩⟩, Hc, ⟨HC0, HC1, HC2, HC3, HC4, HC5, HC6⟩, ⟨Hw, Hp, ⟨%fs, Hs⟩, ⟨%fr, Hr⟩⟩, Hst⟩
  ihave Hs := (s_split c fs) $$ Hs
  ihave Hs := (Entails.of_eq (bigSep_fin7 fun j => iprop(∃ X, sOwn (F := F) c j X))) $$ Hs
  icases Hs with ⟨HS0, HS1, HS2, HS3, HS4, HS5, HS6⟩
  ihave Hr := (r_split c fr) $$ Hr
  ihave Hr := (Entails.of_eq (bigSep_fin7 fun j => iprop(∃ X, rOwn (F := F) c j X))) $$ Hr
  icases Hr with ⟨HR0, HR1, HR2, HR3, HR4, HR5, HR6⟩
  ihave Hst := (stg_found m ρ c) $$ Hst
  icases Hst with ⟨G0, G1, G2, G3, G4, G5⟩
  isplitl [HO]; · iexact HO
  isplitl [HB0 HR0]
  · unfold sigTok; isplitl [HB0]; · iexact HB0
    iexact HR0
  isplitl [HB1 HR1]
  · unfold sigTok; isplitl [HB1]; · iexact HB1
    iexact HR1
  isplitl [HB2 HR2]
  · unfold sigTok; isplitl [HB2]; · iexact HB2
    iexact HR2
  isplitl [HB3 HR3]
  · unfold sigTok; isplitl [HB3]; · iexact HB3
    iexact HR3
  isplitl [HB4 HR4]
  · unfold sigTok; isplitl [HB4]; · iexact HB4
    iexact HR4
  isplitl [HB5 HR5]
  · unfold sigTok; isplitl [HB5]; · iexact HB5
    iexact HR5
  isplitl [HB6 HR6]
  · unfold sigTok; isplitl [HB6]; · iexact HB6
    iexact HR6
  isplitl [Hc]; · iexact Hc
  isplitl [Hat]; · iexact Hat
  isplitl [G0]; · iexact G0
  isplitl [G1]; · iexact G1
  isplitl [G2]; · iexact G2
  isplitl [G3]; · iexact G3
  isplitl [G4]; · iexact G4
  isplitl [G5]; · iexact G5
  isplitl [Hw]; · iexact Hw
  isplitl [Hp]; · iexact Hp
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HT0 HU0]
  · unfold payTok; isplitl [HT0]; · iexact HT0
    iexact HU0
  isplitl [HT1 HU1]
  · unfold payTok; isplitl [HT1]; · iexact HT1
    iexact HU1
  isplitl [HT2 HU2]
  · unfold payTok; isplitl [HT2]; · iexact HT2
    iexact HU2
  isplitl [HT3 HU3]
  · unfold payTok; isplitl [HT3]; · iexact HT3
    iexact HU3
  isplitl [HT4 HU4]
  · unfold payTok; isplitl [HT4]; · iexact HT4
    iexact HU4
  isplitl [HT5 HU5]
  · unfold payTok; isplitl [HT5]; · iexact HT5
    iexact HU5
  isplitl [HT6 HU6]
  · unfold payTok; isplitl [HT6]; · iexact HT6
    iexact HU6
  isplitl [HC0 HA0]
  · unfold arrPre; isplitl [HC0]; · iexact HC0
    iexact HA0
  isplitl [HC1 HA1]
  · unfold arrPre; isplitl [HC1]; · iexact HC1
    iexact HA1
  isplitl [HC2 HA2]
  · unfold arrPre; isplitl [HC2]; · iexact HC2
    iexact HA2
  isplitl [HC3 HA3]
  · unfold arrPre; isplitl [HC3]; · iexact HC3
    iexact HA3
  isplitl [HC4 HA4]
  · unfold arrPre; isplitl [HC4]; · iexact HC4
    iexact HA4
  isplitl [HC5 HA5]
  · unfold arrPre; isplitl [HC5]; · iexact HC5
    iexact HA5
  isplitl [HC6 HA6]
  · unfold arrPre; isplitl [HC6]; · iexact HC6
    iexact HA6
  isplitl [HP0]; · iexact HP0
  isplitl [HP1]; · iexact HP1
  isplitl [HP2]; · iexact HP2
  isplitl [HP3]; · iexact HP3
  isplitl [HP4]; · iexact HP4
  isplitl [HP5]; · iexact HP5
  iexact HP6

/-- What the steps leave, gathered: the buffers whole again, every semaphore back at zero. -/
theorem gather (K : Dev nD × Fin 15 → ℕ) (c : Dev nD) (W : Waits sig Unit) :
    iprop(records m ρ K ∗ corePost m ρ c W) ⊢ |={Set.univ}=> bodyPost m ρ c := by
  unfold corePost held oOwn
  iintro ⟨#HR, HO, Hat, HP0, HP1, HP2, HP3, HP4, HP5, HP6, HA0, HA1, HA2, HA3, HA4, HA5, HA6, HS0, HS1, HS2, HS3, HS4, HS5, HS6, HV0, HV1, HV2, HV3, HV4, HV5, HV6, G1, G3, G5, ⟨G0, G2, G4, Hp, Hw⟩⟩
  ihave Hcells : (bigSep Finset.univ fun k : Fin 15 => atPos ER (kcell (c, k)) (0 + 1) ∅ 0 : sProp 𝕄) $$ [Hat HP0 HP1 HP2 HP3 HP4 HP5 HP6 HA0 HA1 HA2 HA3 HA4 HA5 HA6]
  · rw [bigSep_cells c (fun g => (atPos ER g (0 + 1) ∅ 0 : sProp 𝕄)), bigSep_fin7, bigSep_fin7]
    isplitl [Hat]; · iexact Hat
    isplitl [HP0 HP1 HP2 HP3 HP4 HP5 HP6]
    · isplitl [HP0]; · iexact HP0
      isplitl [HP1]; · iexact HP1
      isplitl [HP2]; · iexact HP2
      isplitl [HP3]; · iexact HP3
      isplitl [HP4]; · iexact HP4
      isplitl [HP5]; · iexact HP5
      iexact HP6
    isplitl [HA0]; · iexact HA0
    isplitl [HA1]; · iexact HA1
    isplitl [HA2]; · iexact HA2
    isplitl [HA3]; · iexact HA3
    isplitl [HA4]; · iexact HA4
    isplitl [HA5]; · iexact HA5
    iexact HA6
  imod (cells_close m ρ K c) $$ [Hcells] with Hz
  · isplitr; · iexact HR
    iexact Hcells
  ihave Hs : (bigSep Finset.univ fun j => sOwn c j (stgAt m ρ c j) : sProp 𝕄) $$ [HS0 HS1 HS2 HS3 HS4 HS5 HS6]
  · rw [bigSep_fin7]
    isplitl [HS0]; · iexact HS0
    isplitl [HS1]; · iexact HS1
    isplitl [HS2]; · iexact HS2
    isplitl [HS3]; · iexact HS3
    isplitl [HS4]; · iexact HS4
    isplitl [HS5]; · iexact HS5
    iexact HS6
  ihave Hs := (s_join c (stgAt m ρ c) (m ((c : Thread nD τ).loc cc0_scratch2))) $$ Hs
  ihave Hr : (bigSep Finset.univ fun j => rOwn c j (landAt m ρ c j) : sProp 𝕄) $$ [HV0 HV1 HV2 HV3 HV4 HV5 HV6]
  · rw [bigSep_fin7]
    isplitl [HV0]; · iexact HV0
    isplitl [HV1]; · iexact HV1
    isplitl [HV2]; · iexact HV2
    isplitl [HV3]; · iexact HV3
    isplitl [HV4]; · iexact HV4
    isplitl [HV5]; · iexact HV5
    iexact HV6
  ihave Hr := (r_join c (landAt m ρ c) (m ((c : Thread nD τ).loc cc0_scratch3))) $$ Hr
  imodintro
  unfold bodyPost Φ₁ scr stgPost Dat.owesAt Pipeline.owesWithin
  rw [show (dats m ρ 0 c).owed t₀.succ = 0 from rfl]
  isplitl [Hw Hp Hs Hr Hz]
  · isplitr [Hz]
    · isplitl [Hw]; · iexists _; iexact Hw
      isplitl [Hp]; · iexists _; iexact Hp
      isplitl [Hs] <;> iassumption
    iexact Hz
  isplitl [HO]
  · iexists _
    isplitr
    swap
    · iexact HO
    · ipureintro; exact fun _ _ => Or.inl trivial
  isplitl [G0]
  · iexists _; isplitr; · (ipureintro; rfl)
    iexact G0
  isplitl [G1]
  · iexists _; isplitr; · (ipureintro; rfl)
    iexact G1
  isplitl [G2]
  · iexists _; isplitr; · (ipureintro; rfl)
    iexact G2
  isplitl [G3]
  · iexists _; isplitr; · (ipureintro; rfl)
    iexact G3
  isplitl [G4]
  · iexists _; isplitr; · (ipureintro; rfl)
    iexact G4
  iexists _; isplitr; · (ipureintro; rfl)
  iexact G5

theorem body_sound (c : Dev nD) :
    bodyPre m ρ c ⊢ wp frame (wpE (defs₀ (F := F)) 𝒱₀ (c : Thread nD τ) none) Set.univ
      (cc0_body (F := F) xM (Memref.isWhole_whole _) rwM (Memref.isWhole_whole _) idM (Memref.isWhole_whole _) ewM (Memref.isWhole_whole _) swM (Memref.isWhole_whole _) outM (Memref.isWhole_whole _) wM (Memref.isWhole_whole _) pM (Memref.isWhole_whole _) sM (Memref.isWhole_whole _) rM (Memref.isWhole_whole _) cc0_scratch4 cc0_scratch5) (fun _ => bodyPost m ρ c) := by
  unfold bodyPre Φ₀ start ghost Dat.owesAt Pipeline.owesWithin
  rw [show (dats m ρ 0 c).owed t₀.castSucc = O₀ c from rfl]
  iintro ⟨⟨⟨⟨%K, #HR, Ha, Ht⟩, Hc, Hcs, #Hlev⟩, Hscr⟩, ⟨%W, -, HO⟩, Hst⟩
  iapply (wp_fupd _ _)
  iapply (body_core m ρ K c W)
  isplitr; · iexact HR
  isplitr; · iexact Hlev
  isplitl
  · iapply (deal m ρ c W)
    isplitl [HO]; · iexact HO
    isplitl [Ha]; · iexact Ha
    isplitl [Ht]; · iexact Ht
    isplitl [Hc]; · iexact Hc
    isplitl [Hcs]; · iexact Hcs
    isplitl [Hscr] <;> iassumption
  · iintro H
    iapply (gather m ρ K c W)
    isplitr; · iexact HR
    iexact H

/-- The body obligation on device `c`. -/
theorem body_obligation (c : Dev nD) : BodyObligation (dats (F := F) m ρ 0 c) (defs₀ (F := F)) 𝒱₀ () Set.univ := fun t => by
  rw [fin_N0 t]
  rw [bigSep_win, bigSep_win]
  simp only [owns_whole_eq]
  exact body_sound m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by decide +kernel
theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties of a device's own cells: on its entry semaphore one per other device, then its departures', its arrivals'. -/
abbrev dutyAt (x : Fin 3 × Fin 7) : SemLoc sig × Fin 7 := match x.1 with
  | 0 => (.reg barS, x.2) | 1 => (.dma (sendS x.2), 0) | 2 => (.dma (recvS x.2), 0)
theorem dutyAt_injective : Function.Injective dutyAt := by decide +kernel
abbrev tokOf (cx : Dev nD × (Fin 3 × Fin 7)) : GSem nD τ sig × ℕ × Fin 7 := (((cx.1 : Thread nD τ), (dutyAt cx.2).1), 0, (dutyAt cx.2).2)
theorem tokOf_injective : Function.Injective tokOf := by
  rintro ⟨c, x⟩ ⟨c', x'⟩ h
  have h1 : c = c' := congrArg (fun y : GSem nD τ sig × ℕ × Fin 7 => y.1.1.1) h
  have h2 : x = x' := dutyAt_injective (Prod.ext (congrArg (fun y : GSem nD τ sig × ℕ × Fin 7 => y.1.2) h) (congrArg (fun y : GSem nD τ sig × ℕ × Fin 7 => y.2.2) h))
  rw [h1, h2]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j : Fin 7 => dutyTok ER (barCell c) 0 j)
    ∗ (bigSep Finset.univ fun j : Fin 7 => dutyTok ER (sendCell c j) 0 0)
    ∗ bigSep Finset.univ fun j : Fin 7 => dutyTok ER (recvCell c j) 0 0)

def G (c : Dev nD) : sProp 𝕄 :=
  iprop((bigSep Finset.univ fun k : Fin 15 => roundState ER (Rd m ρ) (kcell (c, k)) 0)
    ∗ (bigSep Finset.univ fun k : Fin 15 => iprop(atPos ER (kcell (c, k)) 0 ∅ 0 ∗ reached ER (kcell (c, k)) 0)) ∗ toks c)
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_fin3]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
/-- The semaphores of a device: the kernel's own fourteen and the entry semaphore. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Fin 15 => semVal (kcell (c, k)) 0 : sProp 𝕄) := by
  rw [unscopedSems0_eq, Pipeline.ownSems0_eq_of_list c osem [0, 1, 2, 3, 4, 5, 6, 7, 8, 9, 10, 11, 12, 13] (by decide) (by decide),
    bigSep_univ_eq_bigSepL [0, 1, 2, 3, 4, 5, 6, 7, 8, 9, 10, 11, 12, 13, 14] (by decide) (by decide) (fun k : Fin 15 => (semVal (kcell (c, k)) 0 : sProp 𝕄))]
  show iprop((_ ∗ _ ∗ _ ∗ _ ∗ _ ∗ _ ∗ _ ∗ _ ∗ _ ∗ _ ∗ _ ∗ _ ∗ _ ∗ _) ∗ _) = _
  simp only [sep_assoc_eq]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Fin 15 => semVal (kcell (c, k)) 0) ∗ bigSep Finset.univ fun k : Fin 15 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 15 → ℕ) (c : Dev nD) : iprop(records m ρ K ∗ ats c ∗ payToks c) ⊢ G' m ρ c := by
  unfold G' ghost
  iintro H; iexists K; iexact H

omit [FloatOps F] in
/-- A family over the devices and the distances, each distance's shifted around the devices, is the same family. -/
theorem shifted (e : Fin 7 → Dev nD ≃ Dev nD) (Φ : Dev nD → Fin 7 → sProp 𝕄) :
    (bigSep Finset.univ fun c => bigSep Finset.univ fun j => Φ c j) = bigSep Finset.univ fun c => bigSep Finset.univ fun j => Φ (e j c) j := by
  rw [BI.bigSep_univ_comm, BI.bigSep_univ_comm (fun c j => Φ (e j c) j)]
  exact bigSep_congr fun j _ => bigSep_univ_equiv (e j) (fun c => Φ c j)

omit [FloatOps F] in
/-- The tokens dealt to the devices that pay the duties. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_sep',
    shifted (fun j => (around j).symm) (fun c j => (dutyTok ER (barCell c) 0 j : sProp 𝕄)),
    shifted around (fun c j => (dutyTok ER (recvCell c j) 0 0 : sProp 𝕄))]
  exact Entails.refl _

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (Rd m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (Rd m ρ) κ (kcell ck) : sProp 𝕄))) $$ HI
  icases HK with ⟨%K, #HI⟩
  ihave Htk := (toks_dealt (F := F)) $$ Htok
  iapply (bigSep_with (R := records m ρ K) fun c _ => ghost_intro m ρ K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ iprop(ats (F := F) c ∗ payToks c) from
        Entails.of_eq (by unfold ats; rw [bigSep_cells c (fun g => (atPos ER g 0 ∅ 0 : sProp 𝕄))])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The credit at launch -/

theorem bar_eq_iff {a b : Dev nD} : Iff (barCell a = barCell b) (a = b) :=
  ⟨fun h => congrArg (fun g : GSem nD τ sig => g.1.1) h, fun h => h ▸ rfl⟩
theorem recv_eq_iff {a b : Dev nD} {i j : Fin 7} : Iff (recvCell a i = recvCell b j) (a = b ∧ i = j) := by
  refine ⟨fun h => ⟨congrArg (fun g : GSem nD τ sig => g.1.1) h, ?_⟩, fun ⟨h, h'⟩ => by subst h; subst h'; rfl⟩
  have : (SemLoc.dma (recvS i) : SemLoc sig) = .dma (recvS j) := congrArg Prod.snd h
  have := congrArg Fin.val (SemLoc.dma.inj this)
  apply Fin.ext
  have h : 13 + i.val = 13 + j.val := this
  omega
theorem recv_ne_bar {a b : Dev nD} {j : Fin 7} : recvCell a j ≠ barCell b := fun h => dma_ne_bar _ (congrArg Prod.snd h)

/-- How many of the distances in `l` lead from `d` to `c`, by one direction and by the other. -/
def cntB (d c : Dev nD) : List (Fin 7) → ℕ
  | [] => 0
  | j :: l => cntB d c l + if c = dn j d then 1 else 0
def cntR (d c : Dev nD) (i : Fin 7) : List (Fin 7) → ℕ
  | [] => 0
  | j :: l => cntR d c i l + if c = up j d ∧ i = j then 1 else 0

theorem oweR_bar (d c : Dev nD) : ∀ l, oweR d l (barCell c) () = 0
  | [] => rfl
  | j :: l => by
    unfold oweR
    rw [Pi.add_apply, Finsupp.add_apply, oweR_bar d c l, tallyAt_ne_cell (fun h => recv_ne_bar h.symm), Finsupp.zero_apply, Nat.add_zero]
theorem oweS_bar (d c : Dev nD) : ∀ l, oweS d l (barCell c) () = cntB d c l
  | [] => oweR_bar d c all7
  | j :: l => by
    unfold oweS cntB
    rw [Pi.add_apply, Finsupp.add_apply, oweS_bar d c l, tallyAt_apply]
    congr 1
    exact if_congr ⟨fun h => bar_eq_iff.mp h.1, fun h => ⟨bar_eq_iff.mpr h, rfl⟩⟩ rfl rfl
theorem oweR_recv (d c : Dev nD) (i : Fin 7) : ∀ l, oweR d l (recvCell c i) () = cntR d c i l * N
  | [] => (Nat.zero_mul _).symm
  | j :: l => by
    unfold oweR cntR
    rw [Pi.add_apply, Finsupp.add_apply, oweR_recv d c i l, tallyAt_apply, Nat.add_mul, ite_mul, Nat.one_mul, Nat.zero_mul]
    congr 1
    exact if_congr ⟨fun h => recv_eq_iff.mp h.1, fun h => ⟨recv_eq_iff.mpr h, rfl⟩⟩ rfl rfl
theorem oweS_recv (d c : Dev nD) (i : Fin 7) : ∀ l, oweS d l (recvCell c i) () = cntR d c i all7 * N
  | [] => oweR_recv d c i all7
  | j :: l => by
    unfold oweS
    rw [Pi.add_apply, Finsupp.add_apply, oweS_recv d c i l, tallyAt_ne_cell recv_ne_bar, Finsupp.zero_apply, Nat.add_zero]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => oweS_bar d c _]
  revert c; decide +kernel
theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => oweS_recv d c j _, ← Finset.sum_mul,
    show (∑ d : Dev nD, cntR d c j all7) = 1 by revert c j; decide +kernel, Nat.one_mul]

theorem recvS_injective : Function.Injective fun j : Fin 7 => (SemLoc.dma (recvS j) : SemLoc sig) := by decide +kernel

omit [FloatOps F] in
theorem creds (c : Dev nD) :
    (Pipeline.launchCred O₀ c : sProp 𝕄)
      ⊢ iprop(cred (tallyAt (barCell c) () 7) ∗ bigSep Finset.univ fun j : Fin 7 => cred (tallyAt (recvCell c j) () N)) := by
  unfold Pipeline.launchCred
  rw [bigSep_univ_at _ (SemLoc.reg barS), launch_bar]
  refine sep_mono_right ?_
  refine (bigSep_subset (t := Finset.univ.map ⟨fun j : Fin 7 => (SemLoc.dma (recvS j) : SemLoc sig), recvS_injective⟩) fun s hs => ?_).trans ?_
  · obtain ⟨j, -, rfl⟩ := Finset.mem_map.mp hs
    exact Finset.mem_erase.mpr ⟨dma_ne_bar _, Finset.mem_univ _⟩
  · rw [bigSep_map]
    exact bigSep_mono fun j _ => Entails.of_eq (congrArg cred (launch_recv c j))

/-! ### The conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [← sems0_eq]
  iintro ⟨Hr, HzS, HzB⟩
  isplitl [HzB]; · iexact HzB
  isplitl [HzS]; · iexact HzS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of the program ends, with each array at its final contents and every semaphore at zero. -/
theorem run_main : θ_run defs (onTc (τ := τ) (main (F := F))) (mem₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin cfg0.W) (h : (cfg0.win w).isOut = false) :
    finalA m ρ c w = m ((cfg0.win w).arr.view.loc (c : Thread nD τ)) :=
  (dats (F := F) m ρ 0 c).arrAt_in w h _

end Cert.KernelIdeal.Moe

end
-- ==== Proof.Frames.lean ====
/-
The frames: each program ends, its arguments unchanged and every semaphore at zero.
-/
module

public import proofs.«01_k».proof.Defs
public import proofs.«01_k».proof.Proof.ILaunch
public import proofs.«01_k».proof.Proof.KLaunch
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

theorem frame_kernel : Cert.quiescent_Kernel := fun m ρ _ =>
  (θ_run Cert.Kernel.defs _ _).mono (fun _ h => ⟨fun c =>
    ⟨(h.1 c (0 : Fin 6)).trans (Cert.Kernel.Moe.finalA_in m ρ c (0 : Fin 6) rfl), (h.1 c (1 : Fin 6)).trans (Cert.Kernel.Moe.finalA_in m ρ c (1 : Fin 6) rfl),
      (h.1 c (2 : Fin 6)).trans (Cert.Kernel.Moe.finalA_in m ρ c (2 : Fin 6) rfl), (h.1 c (3 : Fin 6)).trans (Cert.Kernel.Moe.finalA_in m ρ c (3 : Fin 6) rfl),
      (h.1 c (4 : Fin 6)).trans (Cert.Kernel.Moe.finalA_in m ρ c (4 : Fin 6) rfl)⟩, h.2⟩)
    (Cert.Kernel.Moe.run_main m ρ)

theorem frame_ideal : Cert.quiescent_KernelIdeal := fun m ρ _ =>
  (θ_run Cert.KernelIdeal.defs _ _).mono (fun _ h => ⟨fun c =>
    ⟨(h.1 c (0 : Fin 6)).trans (Cert.KernelIdeal.Moe.finalA_in m ρ c (0 : Fin 6) rfl), (h.1 c (1 : Fin 6)).trans (Cert.KernelIdeal.Moe.finalA_in m ρ c (1 : Fin 6) rfl),
      (h.1 c (2 : Fin 6)).trans (Cert.KernelIdeal.Moe.finalA_in m ρ c (2 : Fin 6) rfl), (h.1 c (3 : Fin 6)).trans (Cert.KernelIdeal.Moe.finalA_in m ρ c (3 : Fin 6) rfl),
      (h.1 c (4 : Fin 6)).trans (Cert.KernelIdeal.Moe.finalA_in m ρ c (4 : Fin 6) rfl)⟩, h.2⟩)
    (Cert.KernelIdeal.Moe.run_main m ρ)

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

end Cert.Proof

end
-- ==== Proof.VForm.lean ====
/-
What the kernel computes, in one spelling: the kernel spells the same selection of tokens and the
same expert product once per device offset, each time cut differently into named payloads. Here
they are named once, and every spelling is shown to be that one.
-/
module

public import proofs.«01_k».proof.Proof.IVals

@[expose] public section

set_option maxRecDepth 16384

noncomputable section

namespace Cert.KernelIdeal.Moe

open Cert.KernelIdeal Cert.KernelIdeal.Gen
open Idealize.ShloMosaic Idealize.ShloMosaic.TcCoe

variable {F : FTy → Type} [FloatOps F]

/-- Which tokens of a block belong to device `q`: the mask, as a number. -/
def maskV (i : Vec F S256x1 .i32) (q : BitVec 32) : FVec F S256x1 .bf16 :=
  truncf .bf16 (sitofp .f32 (extui 32 (cmpi .eq (k0_pay50 i) (broadcast S256x1 q)) natLt_1_32)) bitsLt_bf16_f32

/-- The selection matrix of a mask: row `t`, slot `s` is one where token `t` is the `s`-th of the mask. -/
def selV (k : FVec F S256x1 .bf16) : FVec F S256x64 .bf16 :=
  truncf .bf16 (sitofp .f32 (extui 32 (andi
    (cmpf .oeq (broadcastTo S256x64 (matmul dot_S256x256_S256x1_S256x1_1_0_0_1_n_n none k0_pay7 k (constant S256x1 .f32 0x00000000#32))
      broadcasts_S256x1_S256x64) k0_pay8)
    (broadcastTo S256x64 (cmpf .ogt k (broadcast S256x1 (Scalar.ofBits .bf16 0x0000#16))) broadcasts_S256x1_S256x64)) natLt_1_32))
    bitsLt_bf16_f32

/-- The tokens a selection gathers. -/
def gatherV (s : FVec F S256x64 .bf16) (x : Vec F S256x512 .bf16) : FVec F S64x512 .bf16 :=
  truncf .bf16 (matmul dot_S256x64_S256x512_S64x512_0_0_1_1_n_n none s (shapeCast S256x512 x shapeCasts_S256x512_S256x512)
    (constant S64x512 .f32 0x00000000#32)) bitsLt_bf16_f32

/-- The gate of each token for each of the device's eight experts. -/
def gateV (v2 : BitVec 32) (i : Vec F S256x1 .i32) (p : Vec F S256x1 .f32) : FVec F S256x8 .bf16 :=
  truncf .bf16 (select
    (cmpi .eq (addi (iota .tc S256x8 32 [1] iota_S256x8_d1_w32) (broadcast S256x8 (Scalar.muli v2 8#32)))
      (broadcastTo S256x8 (shapeCast S256x1 i shapeCasts_S256x1_S256x1) broadcasts_S256x1_S256x8))
    (broadcastTo S256x8 (shapeCast S256x1 p shapeCasts_S256x1_S256x1) broadcasts_S256x1_S256x8)
    (broadcast S256x8 (Scalar.ofBits .f32 0x00000000#32))) bitsLt_bf16_f32

/-- The gates a selection gathers. -/
def gatesV (s : FVec F S256x64 .bf16) (g : FVec F S256x8 .bf16) : FVec F S64x8 .bf16 :=
  truncf .bf16 (matmul dot_S256x64_S256x8_S64x8_0_0_1_1_n_n none s g (constant S64x8 .f32 0x00000000#32)) bitsLt_bf16_f32

/-- The gathered tokens, gated once per expert and laid side by side. -/
def mixV (g : FVec F S64x8 .bf16) (x : FVec F S64x512 .bf16) : FVec F S64x4096 .bf16 :=
  shapeCast S64x4096 (mulf
    (broadcastTo S64x8x512 (shapeCast S64x8x1 g shapeCasts_S64x8_S64x8x1) broadcasts_S64x8x1_S64x8x512)
    (broadcastTo S64x8x512 (shapeCast S64x1x512 x shapeCasts_S64x512_S64x1x512) broadcasts_S64x1x512_S64x8x512))
    shapeCasts_S64x8x512_S64x4096

/-- The experts' product of the gated tokens. -/
def expertV (y : FVec F S64x4096 .bf16) (w : Vec F S4096x1024 .bf16) : FVec F S64x1024 .bf16 :=
  truncf .bf16 (matmul dot_S64x4096_S4096x1024_S64x1024_1_0_0_1_n_n none y w (constant S64x1024 .f32 0x00000000#32)) bitsLt_bf16_f32

/-- What the device `v2` computes for the tokens of a block that are its own. -/
def conV (v2 : BitVec 32) (x : Vec F S256x512 .bf16) (i : Vec F S256x1 .i32) (p : Vec F S256x1 .f32) (w : Vec F S4096x1024 .bf16) :
    FVec F S64x1024 .bf16 :=
  expertV (mixV (gatesV (selV (maskV i v2)) (gateV v2 i p)) (gatherV (selV (maskV i v2)) x)) w

/-- The block of results put back at its tokens. -/
def backV (s : FVec F S256x64 .bf16) (r : FVec F S64x1024 .bf16) : FVec F S256x1024 .f32 :=
  matmul dot_S256x64_S64x1024_S256x1024_1_0_0_1_n_n none s r (constant S256x1024 .f32 0x00000000#32)

/-- A landed block, as a matrix. -/
abbrev flatR (r : Vec F S1x64x1024 .bf16) : FVec F S64x1024 .bf16 := shapeCast S64x1024 r shapeCasts_S1x64x1024_S64x1024

/-- The number of the device `n` places before. -/
abbrev prevW (v2 n : BitVec 32) : BitVec 32 := Scalar.remsi (Scalar.subi (Scalar.addi v2 8#32) n) 8#32

theorem stgOf_eq (v2 : BitVec 32) (j : Fin 7) (x : Vec F S256x512 .bf16) (i : Vec F S256x1 .i32) (p : Vec F S256x1 .f32)
    (w : Vec F S4096x1024 .bf16) : stgOf v2 j x i p w = shapeCast S1x64x1024 (conV v2 x i p w) shapeCasts_S64x1024_S1x64x1024 := by
  fin_cases j <;> rfl

theorem outOf_eq (v2 : BitVec 32) (x : Vec F S256x512 .bf16) (i : Vec F S256x1 .i32) (p : Vec F S256x1 .f32) (sw : Vec F S512x1024 .bf16)
    (w : Vec F S4096x1024 .bf16) (r : Fin 7 → Vec F S1x64x1024 .bf16) :
    outOf v2 x i p sw w r =
      addf (addf (addf (addf (addf (addf (addf (addf (k0_pay49 x sw)
        (backV (selV (maskV i v2)) (conV v2 x i p w)))
        (backV (selV (maskV i (prevW v2 1#32))) (flatR (r 0))))
        (backV (selV (maskV i (prevW v2 2#32))) (flatR (r 1))))
        (backV (selV (maskV i (prevW v2 3#32))) (flatR (r 2))))
        (backV (selV (maskV i (prevW v2 4#32))) (flatR (r 3))))
        (backV (selV (maskV i (prevW v2 5#32))) (flatR (r 4))))
        (backV (selV (maskV i (prevW v2 6#32))) (flatR (r 5))))
        (backV (selV (maskV i (prevW v2 7#32))) (flatR (r 6))) := rfl

end Cert.KernelIdeal.Moe

end
-- ==== Proof.VWord.lean ====
/-
Words: the owner of a token is the quotient of its expert's number by eight, as the kernel computes
it on signed words; a truth value as a number; the number words of the devices.
-/
module

public import proofs.«01_k».proof.Proof.VForm
public import Idealize.ShloMosaic.Lib.Pointwise
public import Idealize.ShloMosaic.Lib.WordCmp

@[expose] public section

set_option maxRecDepth 16384

noncomputable section

namespace Cert.KernelIdeal.Moe

open Idealize.ShloMosaic Idealize.ShloMosaic.WordCmp

/-- The floor quotient by eight as the kernel spells it: the quotient, less one where the signs differ and a remainder is left. -/
def quoW (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 8#32 0#32)) (Scalar.extui (Scalar.cmpi .slt 8#32 0#32))))
      (IntOp.cmpi .ne (IntOp.remsi .vector x 8#32) 0#32))
    (IntOp.subi (IntOp.divsi .vector x 8#32) 1#32)
    (IntOp.divsi .vector x 8#32)

theorem divsi_eight (x : BitVec 32) : (IntOp.divsi .vector x 8#32).toInt = x.toInt.tdiv 8 := by
  have h : IntOp.divsi .vector x 8#32 = x.sdiv 8#32 := if_neg (by simp [IntOp.SDivCorner])
  have h8 : (8#32 : BitVec 32).toInt = 8 := by decide
  have hl := x.toInt_lt
  have hg := x.le_toInt
  rw [h, BitVec.toInt_sdiv, h8]
  rcases le_or_gt 0 x.toInt with h0 | h0
  · have e : x.toInt.tdiv 8 = x.toInt / 8 := Int.tdiv_eq_ediv_of_nonneg h0
    rw [e]
    apply Int.bmod_eq_of_le_mul_two <;> omega
  · have e : x.toInt.tdiv 8 = -((-x.toInt) / 8) := by
      rw [← Int.tdiv_eq_ediv_of_nonneg (by omega), Int.neg_tdiv, neg_neg]
    rw [e]
    apply Int.bmod_eq_of_le_mul_two <;> omega

theorem remsi_eight (x : BitVec 32) : (IntOp.remsi .vector x 8#32).toInt = x.toInt.tmod 8 := by
  have h : IntOp.remsi .vector x 8#32 = x.srem 8#32 := if_neg (by simp [IntOp.SDivCorner])
  rw [h, BitVec.toInt_srem]
  have h8 : (8#32 : BitVec 32).toInt = 8 := by decide
  rw [h8]

/-- A word of no negative number: the quotient is the floor quotient. -/
theorem quoW_of_nonneg (x : BitVec 32) (h : 0 ≤ x.toInt) : (quoW x).toInt = x.toInt / 8 := by
  have hr : quoW x = IntOp.divsi .vector x 8#32 := by
    rcases eq_or_lt_of_le h with h0 | h0
    · have hx : x = 0#32 := BitVec.eq_of_toInt_eq (by simpa using h0.symm)
      subst hx; decide
    · have h1 : IntOp.cmpi .sgt x 0#32 = 1#1 := by
        rw [cmpi_sgt_eq, ofBool_decide_eq_one_iff]; simpa using h0
      have h2 : IntOp.cmpi .slt x 0#32 = 0#1 := by
        rw [cmpi_slt_eq, ofBool_decide_eq_zero_iff]; simpa using h
      unfold quoW
      rw [h1, h2]
      have h3 : IntOp.cmpi .ne (IntOp.subi (BitVec.setWidth 32 1#1) (BitVec.setWidth 32 0#1))
        (Scalar.subi (Scalar.extui (Scalar.cmpi .sgt 8#32 0#32)) (Scalar.extui (Scalar.cmpi .slt 8#32 0#32))) = 0#1 := by decide
      rw [h3]
      have h4 : ∀ b : BitVec 1, IntOp.andi 0#1 b = 0#1 := by decide
      rw [h4]
      rfl
  rw [hr, divsi_eight, Int.tdiv_eq_ediv_of_nonneg h]

/-- A word of a negative number: so is its quotient's. -/
theorem quoW_of_neg (x : BitVec 32) (h : x.toInt < 0) : (quoW x).toInt < 0 := by
  have hg := x.le_toInt
  have hd : (IntOp.divsi .vector x 8#32).toInt = -((-x.toInt) / 8) := by
    rw [divsi_eight, ← Int.tdiv_eq_ediv_of_nonneg (by omega), Int.neg_tdiv, neg_neg]
  have hm : (IntOp.remsi .vector x 8#32).toInt = -((-x.toInt) % 8) := by
    rw [remsi_eight, ← Int.tmod_eq_emod_of_nonneg (by omega), Int.neg_tmod, neg_neg]
  have h1 : IntOp.cmpi .sgt x 0#32 = 0#1 := by
    rw [cmpi_sgt_eq, ofBool_decide_eq_zero_iff]; simpa using h.le
  have h2 : IntOp.cmpi .slt x 0#32 = 1#1 := by
    rw [cmpi_slt_eq, ofBool_decide_eq_one_iff]; simpa using h
  have h3 : IntOp.cmpi .ne (IntOp.subi (BitVec.setWidth 32 0#1) (BitVec.setWidth 32 1#1))
    (Scalar.subi (Scalar.extui (Scalar.cmpi .sgt 8#32 0#32)) (Scalar.extui (Scalar.cmpi .slt 8#32 0#32))) = 1#1 := by decide
  have h4 : ∀ b : BitVec 1, IntOp.andi 1#1 b = b := by decide
  unfold quoW
  rw [h1, h2, h3, h4]
  by_cases hz : IntOp.remsi .vector x 8#32 = 0#32
  · have h5 : IntOp.cmpi .ne (IntOp.remsi .vector x 8#32) 0#32 = 0#1 := by
      rw [cmpi_ne_eq, hz]; rfl
    rw [h5]
    show (IntOp.divsi .vector x 8#32).toInt < 0
    have h6 : (IntOp.remsi .vector x 8#32).toInt = 0 := by rw [hz]; rfl
    omega
  · have h5 : IntOp.cmpi .ne (IntOp.remsi .vector x 8#32) 0#32 = 1#1 := by
      rw [cmpi_ne_eq, ofBool_decide_eq_one_iff]; exact hz
    rw [h5]
    show (IntOp.divsi .vector x 8#32 - 1#32).toInt < 0
    have h7 : (1#32 : BitVec 32).toInt = 1 := by decide
    rw [BitVec.toInt_sub, h7, hd, Int.bmod_eq_of_le_mul_two (by omega) (by omega)]
    omega

/-- The floor quotient is `q` exactly where the word's number, divided by eight, is. -/
theorem quoW_eq_iff (x : BitVec 32) (q : Nat) (hq : q < 8) : quoW x = BitVec.ofNat 32 q ↔ x.toNat / 8 = q := by
  have hqi : (BitVec.ofNat 32 q).toInt = (q : Int) := toInt_ofNat_of_lt (by omega)
  have hx := x.isLt
  rw [← BitVec.toInt_inj, hqi]
  rcases le_or_gt 0 x.toInt with h | h
  · rw [quoW_of_nonneg x h]
    have h1 : x.toInt = (x.toNat : Int) := toInt_eq_toNat_of_lt_half ((toInt_nonneg_iff_lt_half x).1 h)
    omega
  · have h2 := quoW_of_neg x h
    have h3 : ¬ x.toNat < 2 ^ 31 := fun hl => by
      have := (toInt_nonneg_iff_lt_half x).2 hl
      omega
    constructor <;> intro e <;> omega

/-- A truth value, widened and converted, is one or nothing. -/
theorem sitofp_ofBool (φ : FTy) (b : Bool) : FloatOps.sitofp (F := Ideal) φ (BitVec.setWidth 32 (BitVec.ofBool b)) = if b then (1 : EReal) else 0 := by
  show (((BitVec.setWidth 32 (BitVec.ofBool b)).toInt : ℝ) : EReal) = _
  cases b
  · simp
  · have : (BitVec.setWidth 32 (BitVec.ofBool true)).toInt = 1 := by decide
    rw [this]; simp

theorem sitofp_nat (φ : FTy) (n : Nat) (h : n < 2 ^ 31) : FloatOps.sitofp (F := Ideal) φ (BitVec.ofNat 32 n) = ((n : ℕ) : EReal) := by
  show (((BitVec.ofNat 32 n).toInt : ℝ) : EReal) = _
  rw [toInt_ofNat_of_lt (by omega)]
  simp

theorem me_eq (c : Dev nD) : me c = BitVec.ofNat 32 c.val := by
  revert c; decide

theorem prevW_eq (c : Dev nD) (j : Fin 7) : prevW (me c) (BitVec.ofNat 32 (1 + j.val)) = BitVec.ofNat 32 ((c.val + 7 - j.val) % 8) := by
  revert c j; decide

end Cert.KernelIdeal.Moe

end
-- ==== Proof.VSlot.lean ====
/-
Slots: the tokens of a block that satisfy a property are numbered in their order, the first from
slot nothing on. Summing against the indicator of "token `t` has slot `s`" gathers the token of a
slot, and puts a slot's value back at its token, as long as the slots suffice.
-/
module

public import Mathlib.Data.EReal.Operations
public import Mathlib.Algebra.BigOperators.Group.Finset.Basic
public import Mathlib.Algebra.BigOperators.Group.Finset.Piecewise
public import Mathlib.Data.Fintype.BigOperators

@[expose] public section

noncomputable section

namespace Cert.Moe

open Finset

variable (M : Fin 256 → Prop) [DecidablePred M]

/-- How many tokens up to and with `t` have the property. -/
def rk (t : Fin 256) : ℕ := (univ.filter fun x => x ≤ t ∧ M x).card

/-- Token `t` has slot `s`: one or nothing. -/
def slot (t : Fin 256) (s : Fin 64) : EReal := if M t ∧ rk M t = s.val + 1 then 1 else 0

variable {M}

theorem rk_lt {t u : Fin 256} (hu : M u) (h : t < u) : rk M t < rk M u := by
  refine card_lt_card ⟨fun x hx => ?_, fun hs => ?_⟩
  · have := (mem_filter.1 hx).2
    exact mem_filter.2 ⟨mem_univ _, this.1.trans h.le, this.2⟩
  · have := (mem_filter.1 (hs (mem_filter.2 ⟨mem_univ u, le_rfl, hu⟩))).2.1
    exact absurd h (not_lt.2 this)

theorem rk_inj {t u : Fin 256} (ht : M t) (hu : M u) (h : rk M t = rk M u) : t = u := by
  rcases lt_trichotomy t u with hl | he | hl
  · exact absurd h (rk_lt hu hl).ne
  · exact he
  · exact absurd h.symm (rk_lt ht hl).ne

theorem rk_pos {t : Fin 256} (ht : M t) : 0 < rk M t :=
  card_pos.2 ⟨t, mem_filter.2 ⟨mem_univ t, le_rfl, ht⟩⟩

theorem rk_le (t : Fin 256) : rk M t ≤ (univ.filter M).card :=
  card_le_card fun x hx => mem_filter.2 ⟨mem_univ x, (mem_filter.1 hx).2.2⟩

/-- Gathering: the sum over the tokens is the value at the token of the slot. -/
theorem gather {t : Fin 256} (ht : M t) {s : Fin 64} (hs : rk M t = s.val + 1) (f : Fin 256 → EReal) :
    ∑ x, slot M x s * f x = f t := by
  rw [sum_eq_single t]
  · rw [slot, if_pos ⟨ht, hs⟩, one_mul]
  · intro x _ hx
    rw [slot, if_neg, zero_mul]
    exact fun h => hx (rk_inj h.1 ht (h.2.trans hs.symm))
  · exact fun h => absurd (mem_univ t) h

/-- Putting back: the sum over the slots is the value of the token's slot. -/
theorem back {t : Fin 256} (ht : M t) (hc : (univ.filter M).card ≤ 64) (r : Fin 64 → EReal) (v : EReal)
    (hr : ∀ s : Fin 64, rk M t = s.val + 1 → r s = v) : ∑ s, slot M t s * r s = v := by
  have h1 := rk_pos ht
  have h2 := (rk_le (M := M) t).trans hc
  have hs : rk M t = (⟨rk M t - 1, by omega⟩ : Fin 64).val + 1 := by simp only []; omega
  rw [sum_eq_single ⟨rk M t - 1, by omega⟩]
  · rw [slot, if_pos ⟨ht, hs⟩, one_mul]
    exact hr _ hs
  · intro s _ hne
    rw [slot, if_neg, zero_mul]
    rintro ⟨-, h⟩
    exact hne (Fin.ext (by simp only []; omega))
  · exact fun h => absurd (mem_univ _) h

/-- A token without the property gets nothing back. -/
theorem back_not {t : Fin 256} (ht : ¬ M t) (r : Fin 64 → EReal) : ∑ s, slot M t s * r s = 0 :=
  sum_eq_zero fun s _ => by rw [slot, if_neg (fun h => ht h.1), zero_mul]

/-- The sum of the indicators up to `t` is the rank. -/
theorem rank_sum (t : Fin 256) : ∑ x : Fin 256, (if x ≤ t then (1 : EReal) else 0) * (if M x then 1 else 0) = ((rk M t : ℕ) : EReal) := by
  have e : ∀ x : Fin 256, (if x ≤ t then (1 : EReal) else 0) * (if M x then 1 else 0) = if x ≤ t ∧ M x then 1 else 0 := fun x => by
    by_cases h1 : x ≤ t <;> by_cases h2 : M x <;> simp [h1, h2]
  rw [sum_congr rfl fun x _ => e x, ← sum_filter, sum_const, nsmul_one, rk]

/-- A real number that is not negative goes into a sum. -/
theorem mul_sum_real {ι : Type} (s : Finset ι) (a : EReal) (h0 : 0 ≤ a) (ht : a ≠ ⊤) (f : ι → EReal) :
    a * ∑ i ∈ s, f i = ∑ i ∈ s, a * f i := by
  classical
  induction s using Finset.induction_on with
  | empty => simp
  | insert i s hi ih => rw [sum_insert hi, sum_insert hi, EReal.left_distrib_of_nonneg_of_ne_top h0 ht, ih]

end Cert.Moe

end
-- ==== Proof.VRead.lean ====
/-
The kernel's named values read at an index, over the extended reals.
-/
module

public import proofs.«01_k».proof.Proof.VForm
public import proofs.«01_k».proof.Proof.VWord
public import proofs.«01_k».proof.Proof.VSlot
public import Idealize.ShloMosaic.Lib.Pointwise

@[expose] public section

set_option maxRecDepth 16384

noncomputable section

namespace Cert.KernelIdeal.Moe

open Cert.KernelIdeal Cert.KernelIdeal.Gen Cert.Moe
open Idealize.ShloMosaic Idealize.ShloMosaic.TcCoe Idealize.ShloMosaic.WordCmp

/-- Whether token `t` of a block with expert numbers `i` belongs to device `q`. -/
abbrev Own (i : Vec Ideal S256x1 .i32) (q : Nat) (t : Fin 256) : Prop := (i (ix2 t 0)).toNat / 8 = q

theorem maskV_at (i : Vec Ideal S256x1 .i32) (q : Nat) (hq : q < 8) (t : Fin 256) :
    maskV (F := Ideal) i (BitVec.ofNat 32 q) (ix2 t 0) = if Own i q t then 1 else 0 := by
  have h : maskV (F := Ideal) i (BitVec.ofNat 32 q) (ix2 t 0)
      = (FloatOps.sitofp (F := Ideal) .f32 (BitVec.setWidth 32 (IntOp.cmpi .eq (quoW (i (ix2 t 0))) (BitVec.ofNat 32 q))) : EReal) := by
    pointwise [maskV, k0_pay50, quoW]
  rw [h, cmpi_eq_eq, sitofp_ofBool]
  simp only [decide_eq_true_eq, quoW_eq_iff _ q hq]

theorem selV_at (k : FVec Ideal S256x1 .bf16) (M : Fin 256 → Prop) [DecidablePred M]
    (hk : ∀ t, k (ix2 t 0) = if M t then 1 else 0) (t : Fin 256) (s : Fin 64) : selV k (ix2 t s) = slot M t s := by
  pointwise [selV, k0_pay7, k0_pay8]
  have hr : ∑ x : Fin 256, FloatOps.sitofp (F := Ideal) .f32
        (BitVec.setWidth 32 (IntOp.cmpi .sle (BitVec.ofNat 32 x.val) (BitVec.ofNat 32 t.val))) * k (ix2 x 0)
      = ((rk M t : ℕ) : EReal) := by
    rw [← rank_sum]
    refine Finset.sum_congr rfl fun x _ => ?_
    rw [cmpi_sle_ofNat (by have := x.isLt; omega) (by have := t.isLt; omega), sitofp_ofBool, hk]
    simp only [decide_eq_true_eq, Fin.le_def]
  have hs : FloatOps.sitofp (F := Ideal) .f32 (BitVec.ofNat 32 s.val) + 1 = (((s.val + 1 : ℕ) : ℕ) : EReal) := by
    rw [sitofp_nat _ _ (by have := s.isLt; omega)]
    push_cast; rfl
  rw [hr, hs, hk, andi_ofBool, sitofp_ofBool, slot]
  have hp : (0 < (if M t then (1 : EReal) else 0)) ↔ M t := by by_cases h : M t <;> simp [h]
  simp only [hp, Bool.and_eq_true, decide_eq_true_eq, Nat.cast_inj]
  by_cases h1 : M t <;> by_cases h2 : rk M t = s.val + 1 <;> simp [h1, h2]

theorem gatherV_at (s : FVec Ideal S256x64 .bf16) (x : Vec Ideal S256x512 .bf16) (a : Fin 64) (d : Fin 512) :
    gatherV s x (ix2 a d) = ∑ t : Fin 256, s (ix2 t a) * x (ix2 t d) := by
  pointwise [gatherV]

theorem gateV_at (c : Dev nD) (i : Vec Ideal S256x1 .i32) (p : Vec Ideal S256x1 .f32) (t : Fin 256) (e : Fin 8) :
    gateV (me c) i p (ix2 t e) = if (i (ix2 t 0)).toNat = 8 * c.val + e.val then p (ix2 t 0) else 0 := by
  have h : gateV (me c) i p (ix2 t e)
      = Scalar.select (IntOp.cmpi .eq (IntOp.addi (BitVec.ofNat 32 e.val) (Scalar.muli (me c) 8#32)) (i (ix2 t 0))) (p (ix2 t 0)) 0 := by
    pointwise [gateV]
  have hw : IntOp.addi (BitVec.ofNat 32 e.val) (Scalar.muli (me c) 8#32) = BitVec.ofNat 32 (8 * c.val + e.val) := by
    clear h; revert c e; decide
  have hl : 8 * c.val + e.val < 2 ^ 32 := by have := c.isLt; have := e.isLt; have : nD = 8 := rfl; omega
  rw [h, hw, cmpi_eq_eq_toNat, toNat_ofNat_of_lt hl]
  by_cases hc : (i (ix2 t 0)).toNat = 8 * c.val + e.val
  · rw [if_pos hc, decide_eq_true hc.symm]; rfl
  · rw [if_neg hc, decide_eq_false (fun h => hc h.symm)]; rfl

theorem gatesV_at (s : FVec Ideal S256x64 .bf16) (g : FVec Ideal S256x8 .bf16) (a : Fin 64) (e : Fin 8) :
    gatesV s g (ix2 a e) = ∑ t : Fin 256, s (ix2 t a) * g (ix2 t e) := by
  pointwise [gatesV]

theorem mixV_at (g : FVec Ideal S64x8 .bf16) (x : FVec Ideal S64x512 .bf16) (a : Fin 64) (e : Fin 8) (d : Fin 512)
    (h : e.val * 512 + d.val < 4096) : mixV g x (ix2 a ⟨e.val * 512 + d.val, h⟩) = g (ix2 a e) * x (ix2 a d) := by
  pointwise [mixV]

theorem expertV_at (y : FVec Ideal S64x4096 .bf16) (w : Vec Ideal S4096x1024 .bf16) (a : Fin 64) (h : Fin 1024) :
    expertV y w (ix2 a h) = ∑ k : Fin 4096, y (ix2 a k) * w (ix2 k h) := by
  pointwise [expertV]

theorem backV_at (s : FVec Ideal S256x64 .bf16) (r : FVec Ideal S64x1024 .bf16) (t : Fin 256) (h : Fin 1024) :
    backV s r (ix2 t h) = ∑ a : Fin 64, s (ix2 t a) * r (ix2 a h) := by
  pointwise [backV]

theorem flatR_at (r : FVec Ideal S64x1024 .bf16) : flatR (F := Ideal) (shapeCast S1x64x1024 r shapeCasts_S64x1024_S1x64x1024) = r := by
  funext j; idx_vars j; pointwise

theorem wV_at (w : Vec Ideal S8x512x1024 .bf16) (e : Fin 8) (d : Fin 512) (hk : e.val * 512 + d.val < 4096) (h : Fin 1024) :
    wV w (ix2 ⟨e.val * 512 + d.val, hk⟩ h) = w (ix3 e d h) := by
  pointwise [wV, k0_pay1]

theorem shared_at (x : Vec Ideal S256x512 .bf16) (w : Vec Ideal S512x1024 .bf16) (t : Fin 256) (h : Fin 1024) :
    k0_pay49 x w (ix2 t h) = ∑ d : Fin 512, x (ix2 t d) * w (ix2 d h) := by
  pointwise [k0_pay49, k0_pay48]

/-- What a device computes for a token of its own: the gated token through its expert. -/
theorem conV_at (c : Dev nD) (x : Vec Ideal S256x512 .bf16) (i : Vec Ideal S256x1 .i32) (p : Vec Ideal S256x1 .f32)
    (w : Vec Ideal S8x512x1024 .bf16) (t : Fin 256) (ht : Own i c.val t) (a : Fin 64) (ha : rk (Own i c.val) t = a.val + 1)
    (h : Fin 1024) (e : Fin 8) (he : (i (ix2 t 0)).toNat = 8 * c.val + e.val) :
    conV (me c) x i p (wV w) (ix2 a h) = ∑ d : Fin 512, p (ix2 t 0) * x (ix2 t d) * w (ix3 e d h) := by
  have hs := selV_at (maskV i (me c)) (Own i c.val) fun t => by rw [me_eq]; exact maskV_at i c.val c.isLt t
  have hg : ∀ e' : Fin 8, gatesV (selV (maskV i (me c))) (gateV (me c) i p) (ix2 a e') = if e' = e then p (ix2 t 0) else 0 := fun e' => by
    rw [gatesV_at]
    simp only [hs]
    rw [gather ht ha fun t => gateV (me c) i p (ix2 t e'), gateV_at, he]
    by_cases h : e' = e
    · rw [if_pos (by rw [h]), if_pos h]
    · rw [if_neg (fun h' => h (Fin.ext (by omega))), if_neg h]
  have hx : ∀ d : Fin 512, gatherV (selV (maskV i (me c))) x (ix2 a d) = x (ix2 t d) := fun d => by
    rw [gatherV_at]
    simp only [hs]
    exact gather ht ha fun t => x (ix2 t d)
  rw [conV, expertV_at, Fin.sum_univ_tiles 8 512 (by norm_num)]
  have ht : ∀ (e' : Fin 8) (d : Fin 512) (hk : e'.val * 512 + d.val < 4096),
      mixV (gatesV (selV (maskV i (me c))) (gateV (me c) i p)) (gatherV (selV (maskV i (me c))) x) (ix2 a ⟨e'.val * 512 + d.val, hk⟩)
          * wV w (ix2 ⟨e'.val * 512 + d.val, hk⟩ h)
        = (if e' = e then p (ix2 t 0) else 0) * x (ix2 t d) * w (ix3 e' d h) := fun e' d hk => by
    rw [mixV_at, wV_at, hg, hx]
  rw [Finset.sum_eq_single e]
  · exact Finset.sum_congr rfl fun d _ => by rw [ht, if_pos rfl]
  · exact fun e' _ hne => Finset.sum_eq_zero fun d _ => by rw [ht, if_neg hne, zero_mul, zero_mul]
  · exact fun hm => absurd (Finset.mem_univ _) hm

/-! The routing probabilities. -/

/-- The score of token `t` for expert `e`. -/
def sco (x : Vec Ideal S2048x512 .bf16) (rw : Vec Ideal S512x64 .bf16) (t : Fin 2048) (e : Fin 64) : EReal :=
  ∑ k : Fin 512, x (ix2 t k) * rw (ix2 k e)
/-- Its exponential, under the greatest score of the token. -/
def expo (x : Vec Ideal S2048x512 .bf16) (rw : Vec Ideal S512x64 .bf16) (t : Fin 2048) (e : Fin 64) : EReal :=
  Ideal.exp (sco x rw t e - Finset.fold max (Ideal.ofBits .f32 0xFF800000#32) (sco x rw t) Finset.univ)
/-- The token's probability for the expert. -/
def prob (x : Vec Ideal S2048x512 .bf16) (rw : Vec Ideal S512x64 .bf16) (t : Fin 2048) (e : Fin 64) : EReal :=
  Ideal.div (expo x rw t e) (∑ e', expo x rw t e')

theorem pV_at (x : Vec Ideal S2048x512 .bf16) (rw : Vec Ideal S512x64 .bf16) (idx : Vec Ideal S2048x1 .i32) (t : Fin 2048)
    (e : Fin 64) (he : (idx (ix2 t 0)).toNat = e.val) : pV x rw idx (ix2 t 0) = prob x rw t e := by
  have h : pV x rw idx (ix2 t 0)
      = Ideal.div (∑ e' : Fin 64, Scalar.select (IntOp.cmpi .eq (BitVec.ofNat 32 e'.val) (idx (ix2 t 0))) (expo x rw t e') 0)
          (∑ e', expo x rw t e') := by
    unfold expo sco
    pointwise [pV, k0_pay2, k0_pay3, k0_pay4, k0_pay5, k0_pay6]
  rw [h, prob, Finset.sum_eq_single e]
  · rw [cmpi_eq_eq_toNat, toNat_ofNat_of_lt (by have := e.isLt; omega), decide_eq_true he.symm]; rfl
  · intro e' _ hne
    rw [cmpi_eq_eq_toNat, toNat_ofNat_of_lt (by have := e'.isLt; omega), decide_eq_false (fun h' => hne (Fin.ext (h'.trans he)))]; rfl
  · exact fun hm => absurd (Finset.mem_univ _) hm

end Cert.KernelIdeal.Moe

end
-- ==== Proof.VRows.lean ====
/-
What the devices read: a block of 256 tokens of a whole array, at an index; the staged arguments
are the argument arrays; the result array ends holding the kernel's result.
-/
module

public import proofs.«01_k».proof.Proof.ILaunch
public import Idealize.ShloMosaic.Lib.Pipeline.Value
public import Idealize.ShloMosaic.Lib.Pointwise

@[expose] public section

set_option maxRecDepth 16384

noncomputable section

namespace Cert.KernelIdeal.Moe

open Cert.KernelIdeal Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-- Token `t` of the block of device `c`, in the whole array. -/
abbrev tok (c : Dev nD) (t : Fin 256) : Fin 2048 := ⟨256 * c.val + t.val, by have := c.isLt; have := t.isLt; have : nD = 8 := rfl; omega⟩

theorem xRow_at (c : Dev nD) (j : Fin 7) (x : Vec F S2048x512 .bf16) (t : Fin 256) (d : Fin 512) :
    xRow c j x (ix2 t d) = x (ix2 (tok (up j c) t) d) := by
  have h := k0_off2_eq c j
  refine congrArg x (funext fun a => Fin.ext ?_)
  match a with
  | ⟨0, _⟩ =>
    show k0_off2 c (BitVec.ofNat 32 (1 + j.val)) 0 + 1 * t.val = 256 * ((c.val + (j.val + 1)) % 8) + t.val
    rw [h]; show 256 * _ + _ = _; omega
  | ⟨1, _⟩ =>
    show k0_off2 c (BitVec.ofNat 32 (1 + j.val)) 1 + 1 * d.val = d.val
    rw [h]; show 0 + _ = _; omega

theorem iRow_at (c : Dev nD) (j : Fin 7) (x : Vec F S2048x1 .i32) (t : Fin 256) :
    iRow c j x (ix2 t 0) = x (ix2 (tok (up j c) t) 0) := by
  have h := k0_off1_eq c j
  refine congrArg x (funext fun a => Fin.ext ?_)
  match a with
  | ⟨0, _⟩ =>
    show k0_off1 c (BitVec.ofNat 32 (1 + j.val)) 0 + 1 * t.val = 256 * ((c.val + (j.val + 1)) % 8) + t.val
    rw [h]; show 256 * _ + _ = _; omega
  | ⟨1, _⟩ =>
    show k0_off1 c (BitVec.ofNat 32 (1 + j.val)) 1 + 1 * 0 = 0
    rw [h]; rfl

theorem pRow_at (c : Dev nD) (j : Fin 7) (x : Vec F S2048x1 .f32) (t : Fin 256) :
    pRow c j x (ix2 t 0) = x (ix2 (tok (up j c) t) 0) := by
  have h := k0_off1_eq c j
  refine congrArg x (funext fun a => Fin.ext ?_)
  match a with
  | ⟨0, _⟩ =>
    show k0_off1 c (BitVec.ofNat 32 (1 + j.val)) 0 + 1 * t.val = 256 * ((c.val + (j.val + 1)) % 8) + t.val
    rw [h]; show 256 * _ + _ = _; omega
  | ⟨1, _⟩ =>
    show k0_off1 c (BitVec.ofNat 32 (1 + j.val)) 1 + 1 * 0 = 0
    rw [h]; rfl

theorem xOwn_at (c : Dev nD) (x : Vec F S2048x512 .bf16) (t : Fin 256) (d : Fin 512) :
    xOwn c x (ix2 t d) = x (ix2 (tok c t) d) := by
  have h := k0_off3_eq c
  refine congrArg x (funext fun a => Fin.ext ?_)
  match a with
  | ⟨0, _⟩ =>
    show k0_off3 c 0 + 1 * t.val = 256 * c.val + t.val
    rw [h]; show 256 * _ + _ = _; omega
  | ⟨1, _⟩ =>
    show k0_off3 c 1 + 1 * d.val = d.val
    rw [h]; show 0 + _ = _; omega

theorem iOwn_at (c : Dev nD) (x : Vec F S2048x1 .i32) (t : Fin 256) : iOwn c x (ix2 t 0) = x (ix2 (tok c t) 0) := by
  have h := k0_off4_eq c
  refine congrArg x (funext fun a => Fin.ext ?_)
  match a with
  | ⟨0, _⟩ =>
    show k0_off4 c 0 + 1 * t.val = 256 * c.val + t.val
    rw [h]; show 256 * _ + _ = _; omega
  | ⟨1, _⟩ =>
    show k0_off4 c 1 + 1 * 0 = 0
    rw [h]; rfl

theorem pOwn_at (c : Dev nD) (x : Vec F S2048x1 .f32) (t : Fin 256) : pOwn c x (ix2 t 0) = x (ix2 (tok c t) 0) := by
  have h := k0_off4_eq c
  refine congrArg x (funext fun a => Fin.ext ?_)
  match a with
  | ⟨0, _⟩ =>
    show k0_off4 c 0 + 1 * t.val = 256 * c.val + t.val
    rw [h]; show 256 * _ + _ = _; omega
  | ⟨1, _⟩ =>
    show k0_off4 c 1 + 1 * 0 = 0
    rw [h]; rfl

/-! The staged arguments are the argument arrays. -/

theorem ax_eq (c : Dev nD) : ax m ρ c = m ((c : Thread nD τ).loc main_arg0) :=
  Memref.read_access_unit_zero (Elt F) main_arg0 (funext fun a => by fin_cases a <;> decide) (fun a => by fin_cases a <;> decide) _
theorem arw_eq (c : Dev nD) : arw m ρ c = m ((c : Thread nD τ).loc main_arg1) :=
  Memref.read_access_unit_zero (Elt F) main_arg1 (funext fun a => by fin_cases a <;> decide) (fun a => by fin_cases a <;> decide) _
theorem aid_eq (c : Dev nD) : aid m ρ c = m ((c : Thread nD τ).loc main_arg2) :=
  Memref.read_access_unit_zero (Elt F) main_arg2 (funext fun a => by fin_cases a <;> decide) (fun a => by fin_cases a <;> decide) _
theorem aew_eq (c : Dev nD) : aew m ρ c = m ((c : Thread nD τ).loc main_arg3) :=
  Memref.read_access_unit_zero (Elt F) main_arg3 (funext fun a => by fin_cases a <;> decide) (fun a => by fin_cases a <;> decide) _
theorem asw_eq (c : Dev nD) : asw m ρ c = m ((c : Thread nD τ).loc main_arg4) :=
  Memref.read_access_unit_zero (Elt F) main_arg4 (funext fun a => by fin_cases a <;> decide) (fun a => by fin_cases a <;> decide) _

/-! The result array. -/

/-- The one point of the grid. -/
abbrev pt : Fin cfg0.N := ⟨0, by rw [show cfg0.N = 1 from N_0]; decide⟩

theorem hz5 (t : Fin cfg0.N) : (fun a => win0_5.index t a * main_v1.ty.shape.size a) = fun _ => 0 := by
  exact funext ((by decide +kernel : ∀ t : Fin grid0.N, ∀ a, win0_5.index t a * main_v1.ty.shape.size a = 0) t)

theorem flushed_eq (c : Dev nD) (t : Fin cfg0.N) :
    (dats m ρ 0 c).flushed 5 t = ((cfg0.win 5).blk t).view.read (Elt F) (outAt m ρ c) :=
  (Memref.read_access_unit_zero (Elt F) main_v1 (hz5 t) (fun a => by rw [congrFun (hz5 t) a]; simp) (outAt m ρ c)).symm

/-- The result array ends holding the kernel's result: its one block is the whole array. -/
theorem final_out (c : Dev nD) : finalA m ρ c 5 = outAt m ρ c :=
  (dats m ρ 0 c).arrAt_eq_of_cover 5 (outAt m ρ c) (fun t _ => flushed_eq m ρ c t) fun i =>
    ⟨pt, flush0_5 pt, by
      show i ∈ ((View.whole main_v1).slice (win0_5.rect pt)).set
      rw [View.set_slice_whole, Rect.mem_set_unit]
      intro a
      have h0 : (i 0 : Nat) < 256 := (i 0).isLt
      have h1 : (i 1 : Nat) < 1024 := (i 1).isLt
      match a with
      | ⟨0, _⟩ => exact ⟨Nat.zero_le _, h0⟩
      | ⟨1, _⟩ => exact ⟨Nat.zero_le _, h1⟩⟩

end Cert.KernelIdeal.Moe

end
-- ==== Proof.VOut.lean ====
/-
The kernel's result at an index, over the extended reals, while no block holds more than 64 tokens
of one device.
-/
module

public import proofs.«01_k».proof.Proof.VRead
public import proofs.«01_k».proof.Proof.VRows

@[expose] public section

set_option maxRecDepth 16384

noncomputable section

namespace Cert.KernelIdeal.Moe

open Cert.KernelIdeal Cert.KernelIdeal.Gen Cert.Moe
open Idealize.ShloMosaic Idealize.ShloMosaic.TcCoe Idealize.ShloMosaic.WordCmp

/-- A returned block put back: at a token of the device the block came from, its row; elsewhere zero. -/
theorem term_at (q : Dev nD) (i : Vec Ideal S256x1 .i32) (hcap : (Finset.univ.filter (Own i q.val)).card ≤ 64)
    (r : FVec Ideal S64x1024 .bf16) (t : Fin 256) (h : Fin 1024) (v : EReal)
    (hr : Own i q.val t → ∀ a : Fin 64, rk (Own i q.val) t = a.val + 1 → r (ix2 a h) = v) :
    backV (selV (maskV i (BitVec.ofNat 32 q.val))) r (ix2 t h) = if Own i q.val t then v else 0 := by
  rw [backV_at]
  simp only [selV_at (maskV i (BitVec.ofNat 32 q.val)) (Own i q.val) fun t => maskV_at i q.val q.isLt t]
  by_cases ht : Own i q.val t
  · rw [if_pos ht]; exact back ht hcap _ v (hr ht)
  · rw [if_neg ht]; exact back_not ht _

/-- The own block and the seven that land are the eight devices, once each. -/
theorem sum_dn (c : Dev nD) (v : Dev nD → EReal) :
    v c + (v (dn 0 c) + (v (dn 1 c) + (v (dn 2 c) + (v (dn 3 c) + (v (dn 4 c) + (v (dn 5 c) + v (dn 6 c))))))) = ∑ q : Fin 8, v q := by
  have hu : (Finset.univ : Finset (Dev nD)) = insert c (Finset.univ.image fun j => dn j c) := by revert c; decide +kernel
  have hc : c ∉ Finset.univ.image fun j => dn j c := by revert c; decide +kernel
  have hj : Set.InjOn (fun j => dn j c) (Finset.univ : Finset (Fin 7)) := fun a _ b _ h =>
    (by decide +kernel : ∀ (c : Dev nD) (a b : Fin 7), dn a c = dn b c → a = b) c a b h
  have hs : ∑ q : Fin 8, v q = v c + ∑ j : Fin 7, v (dn j c) := by
    rw [← Finset.sum_image hj, ← Finset.sum_insert hc, ← hu]
  rw [hs, Fin.sum_univ_seven]
  simp only [add_assoc]

variable (m : (ℓ : Loc nD τ sig) → Buf (Elt Ideal) ℓ) (ρ : Dev nD → PrngReg)

/-- The kernel's result: the shared product, and the token's gated product with its expert's matrix. -/
theorem outAt_at (x : Vec Ideal S2048x512 .bf16) (rw : Vec Ideal S512x64 .bf16) (i : Vec Ideal S2048x1 .i32)
    (w : Fin 64 → Fin 512 → Fin 1024 → EReal) (s : Vec Ideal S512x1024 .bf16)
    (hx : ∀ c, ax m ρ c = x) (hrw : ∀ c, arw m ρ c = rw) (hi : ∀ c, aid m ρ c = i)
    (hw : ∀ (c : Dev nD) (e : Fin 8) (d : Fin 512) (h : Fin 1024) (e' : Fin 64), e'.val = 8 * c.val + e.val → aew m ρ c (ix3 e d h) = w e' d h)
    (hs : ∀ c, asw m ρ c = s)
    (hcap : ∀ (c : Dev nD) (q : Nat), q < 8 → (Finset.univ.filter fun t : Fin 256 => (i (ix2 (tok c t) 0)).toNat / 8 = q).card ≤ 64)
    (c : Dev nD) (t : Fin 256) (h : Fin 1024) :
    outAt m ρ c (ix2 t h) = (∑ d : Fin 512, x (ix2 (tok c t) d) * s (ix2 d h))
      + if he : (i (ix2 (tok c t) 0)).toNat < 64 then
          ∑ d : Fin 512, prob x rw (tok c t) ⟨_, he⟩ * x (ix2 (tok c t) d) * w ⟨_, he⟩ d h else 0 := by
  have hown : ∀ (q : Nat) (t : Fin 256), Own (iOwn c i) q t ↔ (i (ix2 (tok c t) 0)).toNat / 8 = q := fun q t => by
    rw [Own, iOwn_at]
  -- what any device computes for the token, if the token is its own
  let V : EReal := if he : (i (ix2 (tok c t) 0)).toNat < 64 then
    ∑ d : Fin 512, prob x rw (tok c t) ⟨_, he⟩ * x (ix2 (tok c t) d) * w ⟨_, he⟩ d h else 0
  have key : ∀ (q : Dev nD) (x' : Vec Ideal S256x512 .bf16) (i' : Vec Ideal S256x1 .i32) (p' : Vec Ideal S256x1 .f32),
      (∀ t d, x' (ix2 t d) = x (ix2 (tok c t) d)) → (∀ t, i' (ix2 t 0) = i (ix2 (tok c t) 0)) →
      (∀ t, p' (ix2 t 0) = pV x rw i (ix2 (tok c t) 0)) →
      backV (selV (maskV (iOwn c i) (BitVec.ofNat 32 q.val))) (conV (me q) x' i' p' (wV (aew m ρ q))) (ix2 t h)
        = if (i (ix2 (tok c t) 0)).toNat / 8 = q.val then V else 0 := by
    intro q x' i' p' hx' hi' hp'
    have hf : ∀ t, Own (iOwn c i) q.val t ↔ Own i' q.val t := fun t => by rw [hown, Own, hi']
    rw [term_at q (iOwn c i) (by simp only [hown]; exact hcap c q.val q.isLt) _ t h V]
    · simp only [hown]
    · intro ht a ha
      have hP : Own (iOwn c i) q.val = Own i' q.val := funext fun t => propext (hf t)
      have ha' : rk (Own i' q.val) t = a.val + 1 := by rw [← ha]; simp only [hP]
      have hq : (i (ix2 (tok c t) 0)).toNat / 8 = q.val := (hown _ _).1 ht
      have hq8 : q.val < 8 := q.isLt
      have he : (i (ix2 (tok c t) 0)).toNat < 64 := by omega
      have hV : V = ∑ d : Fin 512, prob x rw (tok c t) ⟨_, he⟩ * x (ix2 (tok c t) d) * w ⟨_, he⟩ d h := dif_pos he
      rw [conV_at q x' i' p' _ t ((hf t).1 ht) a ha' h ⟨(i (ix2 (tok c t) 0)).toNat % 8, Nat.mod_lt _ (by decide)⟩ (by rw [hi']; show _ = 8 * q.val + (i (ix2 (tok c t) 0)).toNat % 8; omega), hV]
      refine Finset.sum_congr rfl fun d _ => ?_
      rw [hx', hp', pV_at x rw i (tok c t) ⟨_, he⟩ rfl, hw q _ d h ⟨_, he⟩ (by show (i (ix2 (tok c t) 0)).toNat = 8 * q.val + (i (ix2 (tok c t) 0)).toNat % 8; omega)]
  have hland : ∀ (j : Fin 7) (n : BitVec 32), n = BitVec.ofNat 32 (1 + j.val) →
      backV (selV (maskV (iOwn c i) (prevW (me c) n))) (flatR (landAt m ρ c j)) (ix2 t h)
        = if (i (ix2 (tok c t) 0)).toNat / 8 = (dn j c).val then V else 0 := by
    intro j n hn
    have hd : prevW (me c) n = BitVec.ofNat 32 (dn j c).val := by
      rw [hn, prevW_eq]
      show BitVec.ofNat 32 ((c.val + 7 - j.val) % 8) = BitVec.ofNat 32 ((c.val + (7 - j.val)) % 8)
      have := j.isLt
      rw [show c.val + 7 - j.val = c.val + (7 - j.val) by omega]
    have hl : flatR (landAt m ρ c j) = conV (me (dn j c)) (xRow (dn j c) j x) (iRow (dn j c) j i) (pRow (dn j c) j (pV x rw i)) (wV (aew m ρ (dn j c))) := by
      rw [landAt, stgAt, stgV, stgOf_eq, flatR_at, ap, aw, hx, hi, hrw]
    rw [hd, hl]
    exact key (dn j c) _ _ _ (fun t d => by rw [xRow_at, up_dn]) (fun t => by rw [iRow_at, up_dn]) (fun t => by rw [pRow_at, up_dn])
  have hself : backV (selV (maskV (iOwn c i) (me c))) (conV (me c) (xOwn c x) (iOwn c i) (pOwn c (pV x rw i)) (wV (aew m ρ c))) (ix2 t h)
      = if (i (ix2 (tok c t) 0)).toNat / 8 = c.val then V else 0 := by
    have := key c (xOwn c x) (iOwn c i) (pOwn c (pV x rw i)) (fun t d => xOwn_at c x t d) (fun t => iOwn_at c i t) (fun t => pOwn_at c _ t)
    rwa [← me_eq] at this
  have hsum : ∀ a b : FVec Ideal S256x1024 .f32, addf a b (ix2 t h) = a (ix2 t h) + b (ix2 t h) := fun _ _ => rfl
  rw [outAt, outV, outOf_eq, ap, aw, hx, hi, hrw, hs]
  simp only [hsum]
  rw [hself, hland 0 1#32 rfl, hland 1 2#32 rfl, hland 2 3#32 rfl, hland 3 4#32 rfl, hland 4 5#32 rfl, hland 5 6#32 rfl, hland 6 7#32 rfl,
    shared_at]
  simp only [xOwn_at, add_assoc]
  congr 1
  have := sum_dn c fun q => if (i (ix2 (tok c t) 0)).toNat / 8 = q.val then V else 0
  refine this.trans ?_
  by_cases he : (i (ix2 (tok c t) 0)).toNat < 64
  · rw [Finset.sum_eq_single (⟨(i (ix2 (tok c t) 0)).toNat / 8, by omega⟩ : Fin 8)]
    · rw [if_pos rfl]
    · exact fun q _ hne => if_neg fun h' => hne (Fin.ext h'.symm)
    · exact fun hm => absurd (Finset.mem_univ _) hm
  · rw [dif_neg he]
    exact Finset.sum_eq_zero fun q _ => if_neg fun h' => he (by have := q.isLt; omega)

end Cert.KernelIdeal.Moe

end
-- ==== Proof.VRef.lean ====
/-
The reference's result at an index, over the extended reals.
-/
module

public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Moe

open Cert.ReferenceIdeal Cert.ReferenceIdeal.Gen
open Idealize.ShloMosaic Idealize.ShloMosaic.TcCoe Idealize.ShloMosaic.WordCmp

section Defs
variable {F : FTy → Type} [FloatOps F]

/-- The scores of every token for every expert. -/
def scores (x : FVec F S2048x512 .f32) (rw : FVec F S512x64 .f32) : FVec F S2048x64 .f32 :=
  Host.dotGeneral dot_S2048x512_S512x64_S2048x64_1_0_0_1_n_n none x rw

/-- Their exponentials, under the greatest score of each token. -/
def expos (x : FVec F S2048x512 .f32) (rw : FVec F S512x64 .f32) : FVec F S2048x64 .f32 :=
  Host.exp (subf (scores x rw) (broadcastInDim S2048x64 ![0, 1] bcast_S2048x1_S2048x64_0_1 (broadcastInDim S2048x1 ![0] bcast_S2048_S2048x1_0
    (Host.reduce FloatOps.maximumf (scores x rw) (constant S_ .f32 0xFF800000#32) reducesTo_S2048x64_S2048_d1 h_S_))))

/-- The probabilities. -/
def probs (x : FVec F S2048x512 .f32) (rw : FVec F S512x64 .f32) : FVec F S2048x64 .f32 :=
  Host.divf (expos x rw) (broadcastInDim S2048x64 ![0, 1] bcast_S2048x1_S2048x64_0_1 (broadcastInDim S2048x1 ![0] bcast_S2048_S2048x1_0
    (Host.reduceAdd (expos x rw) (constant S_ .f32 0x00000000#32) reducesTo_S2048x64_S2048_d1 h_S_)))

/-- The experts' part: every expert's product, gated, at the tokens that are its own. -/
def routed (x : FVec F S2048x512 .f32) (p : FVec F S2048x64 .f32) (i : IVec S2048x1 32) (w : FVec F S64x512x1024 .f32) : FVec F S2048x1024 .f32 :=
  Host.reduceAdd (select
    (broadcastInDim S2048x64x1024 ![0, 1, 2] bcast_S2048x64x1_S2048x64x1024_0_1_2 (broadcastInDim S2048x64x1 ![0, 1] bcast_S2048x64_S2048x64x1_0_1
      (cmpi .eq (broadcastInDim S2048x64 ![0, 1] bcast_S2048x1_S2048x64_0_1 i)
        (broadcastInDim S2048x64 ![0, 1] bcast_S1x64_S2048x64_0_1 (broadcastInDim S1x64 ![1] bcast_S64_S1x64_1 (iotaInDim S64 32 0))))))
    (mulf (broadcastInDim S2048x64x1024 ![0, 1, 2] bcast_S2048x64x1_S2048x64x1024_0_1_2 (broadcastInDim S2048x64x1 ![0, 1] bcast_S2048x64_S2048x64x1_0_1 p))
      (Host.dotGeneral dot_S2048x512_S64x512x1024_S2048x64x1024_1_1_0_02_n_n none x w))
    (broadcastInDim S2048x64x1024 ![] bcast_S_S2048x64x1024 (id (constant S_ .f32 0x00000000#32))))
    (constant S_ .f32 0x00000000#32) reducesTo_S2048x64x1024_S2048x1024_d1 h_S_

/-- The reference's result. -/
def refOut (x : FVec F S2048x512 .bf16) (rw : FVec F S512x64 .bf16) (i : IVec S2048x1 32) (w : FVec F S64x512x1024 .bf16) (s : FVec F S512x1024 .bf16) :
    FVec F S2048x1024 .f32 :=
  addf (Host.dotGeneral dot_S2048x512_S512x1024_S2048x1024_1_0_0_1_n_n none (extf .f32 x bitsLt_bf16_f32) (extf .f32 s bitsLt_bf16_f32))
    (routed (extf .f32 x bitsLt_bf16_f32) (probs (extf .f32 x bitsLt_bf16_f32) (extf .f32 rw bitsLt_bf16_f32)) i (extf .f32 w bitsLt_bf16_f32))

/-- The reference's run, with its result named. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Defs

/-- The score of token `t` for expert `e`. -/
def rsco (x : FVec Ideal S2048x512 .bf16) (rw : FVec Ideal S512x64 .bf16) (t : Fin 2048) (e : Fin 64) : EReal :=
  ∑ k : Fin 512, x (ix2 t k) * rw (ix2 k e)
/-- Its exponential, under the greatest score of the token. -/
def rexpo (x : FVec Ideal S2048x512 .bf16) (rw : FVec Ideal S512x64 .bf16) (t : Fin 2048) (e : Fin 64) : EReal :=
  Ideal.exp (rsco x rw t e - Finset.fold max (Ideal.ofBits .f32 0xFF800000#32) (rsco x rw t) Finset.univ)
/-- The token's probability for the expert. -/
def rprob (x : FVec Ideal S2048x512 .bf16) (rw : FVec Ideal S512x64 .bf16) (t : Fin 2048) (e : Fin 64) : EReal :=
  Ideal.div (rexpo x rw t e) (∑ e', rexpo x rw t e')

/-- The reference at an index: the shared product, and the product of the token's expert, gated. -/
theorem refOut_at (x : FVec Ideal S2048x512 .bf16) (rw : FVec Ideal S512x64 .bf16) (i : IVec S2048x1 32) (w : FVec Ideal S64x512x1024 .bf16)
    (s : FVec Ideal S512x1024 .bf16) (t : Fin 2048) (h : Fin 1024) :
    refOut x rw i w s (ix2 t h) = (∑ d : Fin 512, x (ix2 t d) * s (ix2 d h))
      + if he : (i (ix2 t 0)).toNat < 64 then rprob x rw t ⟨_, he⟩ * ∑ d : Fin 512, x (ix2 t d) * w (ix3 ⟨_, he⟩ d h) else 0 := by
  have hz : constant (F := Ideal) S_ .f32 0x00000000#32 ix0 = 0 := by pointwise
  have hr : refOut x rw i w s (ix2 t h) = (∑ d : Fin 512, x (ix2 t d) * s (ix2 d h))
      + ∑ e : Fin 64, Scalar.select (IntOp.cmpi .eq (i (ix2 t 0)) (BitVec.ofNat 32 e.val))
          (rprob x rw t e * ∑ d : Fin 512, x (ix2 t d) * w (ix3 e d h)) 0 := by
    unfold rprob rexpo rsco
    pointwise [refOut, routed, probs, expos, scores]
    simp only [id, hz]
  rw [hr]
  congr 1
  have hsel : ∀ e : Fin 64, ∀ v : EReal, Scalar.select (IntOp.cmpi .eq (i (ix2 t 0)) (BitVec.ofNat 32 e.val)) v 0
      = if (i (ix2 t 0)).toNat = e.val then v else 0 := fun e v => by
    rw [cmpi_eq_eq_toNat, toNat_ofNat_of_lt (by have := e.isLt; omega)]
    by_cases h : (i (ix2 t 0)).toNat = e.val
    · rw [if_pos h, decide_eq_true h]; rfl
    · rw [if_neg h, decide_eq_false h]; rfl
  simp only [hsel]
  by_cases he : (i (ix2 t 0)).toNat < 64
  · rw [dif_pos he, Finset.sum_eq_single (⟨_, he⟩ : Fin 64)]
    · rw [if_pos rfl]
    · exact fun e _ hne => if_neg fun h' => hne (Fin.ext h'.symm)
    · exact fun hm => absurd (Finset.mem_univ _) hm
  · rw [dif_neg he]
    exact Finset.sum_eq_zero fun e _ => if_neg fun h' => he (by have := e.isLt; omega)

end Cert.ReferenceIdeal.Moe

end
-- ==== Proof.VPre.lean ====
/-
The precondition, read: no block of 256 tokens holds more than 64 of one device, and the tokens and
the routing matrix are real numbers.
-/
module

public import proofs.«01_k».proof.Proof.VRead
public import proofs.«01_k».proof.Proof.VRows
public import proofs.«01_k».proof.Proof.Gen.Pre_slots_suffice_KernelIdeal
public import Idealize.ShloMosaic.Lib.IndicatorCount

@[expose] public section

set_option maxRecDepth 16384

noncomputable section

namespace Cert.KernelIdeal.Moe

open Cert.KernelIdeal Cert.KernelIdeal.Gen Cert.Moe
open Idealize.ShloMosaic Idealize.ShloMosaic.TcCoe Idealize.ShloMosaic.WordCmp

/-- Whether device `q`'s eight experts hold the expert number `x`, as the precondition asks it. -/
theorem range_iff (x : BitVec 32) (q : Fin 8) :
    IntOp.andi (IntOp.cmpi .sge x (IntOp.muli 8#32 (BitVec.ofNat 32 q.val)))
      (IntOp.cmpi .slt x (IntOp.addi (IntOp.muli 8#32 (BitVec.ofNat 32 q.val)) 8#32)) = 1#1 ↔ x.toNat / 8 = q.val := by
  have h1 : (IntOp.muli 8#32 (BitVec.ofNat 32 q.val)).toInt = 8 * q.val := by revert q; decide
  have h2 : (IntOp.addi (IntOp.muli 8#32 (BitVec.ofNat 32 q.val)) 8#32).toInt = 8 * q.val + 8 := by revert q; decide
  have hx := x.isLt
  have hq := q.isLt
  rw [cmpi_sge_eq, cmpi_slt_eq, andi_ofBool, h1, h2, BitVec.toInt_eq_toNat_cond]
  rw [show ∀ b : Bool, (BitVec.ofBool b = 1#1 ↔ b = true) by decide, Bool.and_eq_true, decide_eq_true_iff, decide_eq_true_iff]
  split <;> omega

variable [Cert.Pre_slots_suffice_KernelIdeal.Facts]

section Read
variable (x : FVec Ideal S2048x512 .bf16) (rw : FVec Ideal S512x64 .bf16) (i : IVec S2048x1 32) (w : FVec Ideal S8x512x1024 .bf16)
  (s : FVec Ideal S512x1024 .bf16)

theorem fn1_at (b q : Fin 8) :
    (Cert.Pre_slots_suffice_KernelIdeal.fn (F := Ideal) x rw i w s).1 (ix2 b q)
      = IntOp.cmpi .sle (BitVec.ofNat 32 (Finset.univ.filter fun t : Fin 256 => (i (ix2 (tok b t) 0)).toNat / 8 = q.val).card) 64#32 := by
  have h : (Cert.Pre_slots_suffice_KernelIdeal.fn (F := Ideal) x rw i w s).1 (ix2 b q)
      = IntOp.cmpi .sle (Finset.univ.fold IntOp.addi 0#32 fun t : Fin 256 => BitVec.setWidth 32
          (IntOp.andi (IntOp.cmpi .sge (i (ix2 (tok b t) 0)) (IntOp.muli 8#32 (BitVec.ofNat 32 q.val)))
            (IntOp.cmpi .slt (i (ix2 (tok b t) 0)) (IntOp.addi (IntOp.muli 8#32 (BitVec.ofNat 32 q.val)) 8#32)))) 64#32 := by
    have ht : ∀ t : Fin 256, tok b t = ⟨b.val * 256 + t.val, by have := b.isLt; have := t.isLt; omega⟩ := fun t =>
      Fin.ext (by show 256 * b.val + t.val = b.val * 256 + t.val; omega)
    simp only [ht]
    pointwise [Cert.Pre_slots_suffice_KernelIdeal.fn, Cert.Pre_slots_suffice_KernelIdeal.fn_part1]
  rw [h, IndicatorCount.fold_addi_setWidth_eq_card]
  simp only [range_iff]

theorem fn2_at (t : Fin 2048) (d : Fin 512) :
    (Cert.Pre_slots_suffice_KernelIdeal.fn (F := Ideal) x rw i w s).2.1 (ix2 t d)
      = BitVec.ofBool (decide (max (x (ix2 t d)) (-x (ix2 t d)) < Ideal.ofBits .f32 0x7F800000#32)) := by
  pointwise [Cert.Pre_slots_suffice_KernelIdeal.fn, Cert.Pre_slots_suffice_KernelIdeal.fn_part1]
  rfl

theorem fn3_at (d : Fin 512) (e : Fin 64) :
    (Cert.Pre_slots_suffice_KernelIdeal.fn (F := Ideal) x rw i w s).2.2 (ix2 d e)
      = BitVec.ofBool (decide (max (rw (ix2 d e)) (-rw (ix2 d e)) < Ideal.ofBits .f32 0x7F800000#32)) := by
  pointwise [Cert.Pre_slots_suffice_KernelIdeal.fn, Cert.Pre_slots_suffice_KernelIdeal.fn_part1]
  rfl

end Read

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- A number whose absolute value is under infinity is real. -/
theorem real_of_lt (v : EReal) (h : BitVec.ofBool (decide (max v (-v) < Ideal.ofBits .f32 0x7F800000#32)) = 1#1) : ∃ r : ℝ, v = r := by
  rw [show ∀ b : Bool, (BitVec.ofBool b = 1#1 ↔ b = true) by decide, decide_eq_true_iff, ofBits_top, max_lt_iff] at h
  induction v with
  | bot => simp at h
  | top => simp at h
  | coe r => exact ⟨r, rfl⟩

/-- What the precondition says of the arguments of one device. -/
theorem pre_read (x : FVec Ideal S2048x512 .bf16) (rw : FVec Ideal S512x64 .bf16) (i : IVec S2048x1 32) (w : FVec Ideal S8x512x1024 .bf16)
    (s : FVec Ideal S512x1024 .bf16)
    (h1 : (Cert.Pre_slots_suffice_KernelIdeal.fn (F := Ideal) x rw i w s).1 = fun _ => 1#1)
    (h2 : (Cert.Pre_slots_suffice_KernelIdeal.fn (F := Ideal) x rw i w s).2.1 = fun _ => 1#1)
    (h3 : (Cert.Pre_slots_suffice_KernelIdeal.fn (F := Ideal) x rw i w s).2.2 = fun _ => 1#1) :
    (∀ (c : Dev nD) (q : Nat), q < 8 → (Finset.univ.filter fun t : Fin 256 => (i (ix2 (tok c t) 0)).toNat / 8 = q).card ≤ 64)
      ∧ (∀ t d, ∃ r : ℝ, x (ix2 t d) = r) ∧ ∀ d e, ∃ r : ℝ, rw (ix2 d e) = r := by
  refine ⟨fun c q hq => ?_, fun t d => real_of_lt _ ?_, fun d e => real_of_lt _ ?_⟩
  · have h := congrFun h1 (ix2 c (⟨q, hq⟩ : Fin 8))
    rw [fn1_at] at h
    dsimp only at h
    have hle : (Finset.univ.filter fun t : Fin 256 => (i (ix2 (tok c t) 0)).toNat / 8 = q).card ≤ 256 :=
      (Finset.card_le_univ _).trans (by simp)
    rw [cmpi_sle_ofNat (by omega) (by omega), show ∀ b : Bool, (BitVec.ofBool b = 1#1 ↔ b = true) by decide, decide_eq_true_iff] at h
    exact h
  · rw [← fn2_at x rw i w s t d, h2]
  · rw [← fn3_at x rw i w s d e, h3]

/-! The probabilities of real tokens are nonnegative real numbers. -/

/-- A finite sum of real numbers is real. -/
theorem sum_real {ι : Type} (s : Finset ι) (f : ι → EReal) (h : ∀ k, ∃ r : ℝ, f k = r) : ∃ r : ℝ, ∑ k ∈ s, f k = r :=
  Finset.sum_induction f (fun v => ∃ r : ℝ, v = r) (fun _ _ ⟨a, ha⟩ ⟨b, hb⟩ => ⟨a + b, by rw [ha, hb]; rfl⟩) ⟨0, rfl⟩ fun k _ => h k

theorem prob_real (x : Vec Ideal S2048x512 .bf16) (rw : Vec Ideal S512x64 .bf16) (hx : ∀ t d, ∃ r : ℝ, x (ix2 t d) = r)
    (hrw : ∀ d e, ∃ r : ℝ, rw (ix2 d e) = r) (t : Fin 2048) (e : Fin 64) : 0 ≤ prob x rw t e ∧ prob x rw t e ≠ ⊤ := by
  have hs : ∀ e, ∃ r : ℝ, sco x rw t e = r := fun e => sum_real _ _ fun k => by
    obtain ⟨a, ha⟩ := hx t k
    obtain ⟨b, hb⟩ := hrw k e
    exact ⟨a * b, by rw [ha, hb]; rfl⟩
  have hm : ∃ r : ℝ, Finset.fold max (Ideal.ofBits .f32 0xFF800000#32) (sco x rw t) Finset.univ = r := by
    have h1 : Finset.fold max (Ideal.ofBits .f32 0xFF800000#32) (sco x rw t) Finset.univ ≠ ⊤ := by
      rw [← lt_top_iff_ne_top, Finset.fold_max_lt, ofBits_bot]
      exact ⟨bot_lt_top, fun e _ => by obtain ⟨r, hr⟩ := hs e; rw [hr]; exact EReal.coe_lt_top r⟩
    have h2 : Finset.fold max (Ideal.ofBits .f32 0xFF800000#32) (sco x rw t) Finset.univ ≠ ⊥ := by
      rw [← bot_lt_iff_ne_bot, Finset.lt_fold_max]
      exact .inr ⟨0, Finset.mem_univ _, by obtain ⟨r, hr⟩ := hs 0; rw [hr]; exact EReal.bot_lt_coe r⟩
    exact ⟨_, (EReal.coe_toReal h1 h2).symm⟩
  have he : ∀ e, ∃ r : ℝ, 0 < r ∧ expo x rw t e = r := fun e => by
    obtain ⟨a, ha⟩ := hs e
    obtain ⟨b, hb⟩ := hm
    exact ⟨Real.exp (a - b), Real.exp_pos _, by rw [expo, ha, hb]; rfl⟩
  obtain ⟨z, hz⟩ := sum_real Finset.univ (expo x rw t) fun e => (he e).imp fun _ h => h.2
  obtain ⟨a, ha0, ha⟩ := he e
  have hle : expo x rw t e ≤ ∑ e', expo x rw t e' :=
    Finset.single_le_sum (fun e _ => by obtain ⟨r, hr, h⟩ := he e; rw [h]; exact EReal.coe_nonneg.2 hr.le) (Finset.mem_univ e)
  have hz0 : 0 < z := by
    rw [hz, ha, EReal.coe_le_coe_iff] at hle
    exact ha0.trans_le hle
  have hp : prob x rw t e = ((a * z⁻¹ : ℝ) : EReal) := by
    rw [prob, hz, ha, Ideal.div, if_neg (by exact_mod_cast hz0.ne'), ← EReal.coe_inv, ← EReal.coe_mul]
  rw [hp]
  exact ⟨EReal.coe_nonneg.2 (mul_nonneg ha0.le (inv_nonneg.2 hz0.le)), EReal.coe_ne_top _⟩

end Cert.KernelIdeal.Moe

end
-- ==== Proof.Equal.lean ====
/-
The value claim: the kernel over the extended reals ends holding the reference's result, each device
its block of 256 tokens.
-/
module

public import proofs.«01_k».proof.Defs
public import proofs.«01_k».proof.Proof.Frames
public import proofs.«01_k».proof.Proof.VOut
public import proofs.«01_k».proof.Proof.VRef
public import proofs.«01_k».proof.Proof.VPre
public import proofs.«01_k».proof.Proof.Gen.Pre_slots_suffice_ReferenceIdeal

@[expose] public section

set_option maxRecDepth 16384

noncomputable section

namespace Cert.Proof

open Idealize.ShloMosaic Idealize.ShloMosaic.TcCoe Idealize.SL.Sem
open Cert.KernelIdeal.Moe Cert.ReferenceIdeal.Moe

attribute [local instance] Cert.Kernel.Gen.facts Cert.KernelIdeal.Gen.facts Cert.ReferenceIdeal.Gen.facts
  Cert.Pre_slots_suffice_KernelIdeal.Gen.facts Cert.Pre_slots_suffice_ReferenceIdeal.Gen.facts

/-- Expert `e` of device `c`'s block of the experts' matrices is expert `8 c + e` of all of them. -/
theorem block_expert (c : Fin 8) (w : (⟨3, ![64, 512, 1024]⟩ : Shape).Idx → EReal) (e : Fin 8) (d : Fin 512) (h : Fin 1024) (e' : Fin 64)
    (he : e'.val = 8 * c.val + e.val) :
    Layout.block ⟨3, ![8, 512, 1024]⟩ ⟨3, ![64, 512, 1024]⟩ 0 8 c w (by decide) (ix3 e d h) = w (ix3 e' d h) := by
  rw [Layout.block_apply]
  refine congrArg w (funext fun a => Fin.ext ?_)
  match a with
  | ⟨0, _⟩ => exact (show c.val * 8 + e.val = e'.val by omega)
  | ⟨1, _⟩ => rfl
  | ⟨2, _⟩ => rfl

/-- Row `t` of device `c`'s block of a result is its row of token `t` of the block. -/
theorem block_row (c : Fin 8) (v : (⟨2, ![2048, 1024]⟩ : Shape).Idx → EReal) (t : Fin 256) (h : Fin 1024) :
    Layout.block ⟨2, ![256, 1024]⟩ ⟨2, ![2048, 1024]⟩ 0 8 c v (by decide) (ix2 t h) = v (ix2 (tok c t) h) := by
  rw [Layout.block_apply]
  refine congrArg v (funext fun a => Fin.ext ?_)
  match a with
  | ⟨0, _⟩ => exact (show c.val * 256 + t.val = 256 * c.val + t.val by omega)
  | ⟨1, _⟩ => rfl

theorem algebraic : Cert.algebraic_KernelIdeal_ReferenceIdeal_pre_slots_suffice_KernelIdeal := by
  intro m g m' g' hpre hin
  let x : FVec Ideal Cert.ReferenceIdeal.S2048x512 .bf16 := m' (((0 : Dev Cert.ReferenceIdeal.nD).tc : Thread Cert.ReferenceIdeal.nD Cert.ReferenceIdeal.τ).loc Cert.ReferenceIdeal.main_arg0)
  let rw' : FVec Ideal Cert.ReferenceIdeal.S512x64 .bf16 := m' (((0 : Dev Cert.ReferenceIdeal.nD).tc : Thread Cert.ReferenceIdeal.nD Cert.ReferenceIdeal.τ).loc Cert.ReferenceIdeal.main_arg1)
  let i : IVec Cert.ReferenceIdeal.S2048x1 32 := m' (((0 : Dev Cert.ReferenceIdeal.nD).tc : Thread Cert.ReferenceIdeal.nD Cert.ReferenceIdeal.τ).loc Cert.ReferenceIdeal.main_arg2)
  let w : FVec Ideal Cert.ReferenceIdeal.S64x512x1024 .bf16 := m' (((0 : Dev Cert.ReferenceIdeal.nD).tc : Thread Cert.ReferenceIdeal.nD Cert.ReferenceIdeal.τ).loc Cert.ReferenceIdeal.main_arg3)
  let s : FVec Ideal Cert.ReferenceIdeal.S512x1024 .bf16 := m' (((0 : Dev Cert.ReferenceIdeal.nD).tc : Thread Cert.ReferenceIdeal.nD Cert.ReferenceIdeal.τ).loc Cert.ReferenceIdeal.main_arg4)
  obtain ⟨hcap, hxr, hrr⟩ : (∀ (c : Dev Cert.KernelIdeal.nD) (q : Nat), q < 8 → (Finset.univ.filter fun t : Fin 256 => (i (ix2 (tok c t) 0)).toNat / 8 = q).card ≤ 64)
      ∧ (∀ t d, ∃ r : ℝ, x (ix2 t d) = (r : EReal)) ∧ ∀ d e, ∃ r : ℝ, rw' (ix2 d e) = (r : EReal) := by
    obtain ⟨h1, h2, h3⟩ := hpre 0
    obtain ⟨e0, e1, e2, _, _⟩ := hin 0
    have h := pre_read _ _ _ _ _ h1 h2 h3
    rw [e0, e1, e2] at h
    exact h
  have hout : ∀ (c : Dev Cert.KernelIdeal.nD), outAt m g c = Layout.block ⟨2, ![256, 1024]⟩ ⟨2, ![2048, 1024]⟩ 0 8 c (refOut (F := Ideal) x rw' i w s) := by
    intro c
    funext k
    obtain ⟨t, h, rfl⟩ : ∃ (t : Fin 256) (h : Fin 1024), k = ix2 t h := ⟨k 0, k 1, eq_ix2 k⟩
    refine Eq.trans ?_ (block_row c (refOut x rw' i w s) t h).symm
    rw [refOut_at, outAt_at m g x rw' i (fun e d h => w (ix3 e d h)) s
      (fun c => (ax_eq m g c).trans (hin c).1) (fun c => (arw_eq m g c).trans (hin c).2.1) (fun c => (aid_eq m g c).trans (hin c).2.2.1)
      (fun c e d h e' he => by rw [aew_eq m g c, (hin c).2.2.2.1]; exact block_expert c w e d h e' he)
      (fun c => (asw_eq m g c).trans (hin c).2.2.2.2) hcap c t h]
    congr 1
    by_cases he : (i (ix2 (tok c t) 0)).toNat < 64
    · rw [dif_pos he, dif_pos he]
      have hp := prob_real x rw' hxr hrr (tok c t) ⟨_, he⟩
      have hrp : rprob x rw' (tok c t) ⟨_, he⟩ = prob x rw' (tok c t) ⟨_, he⟩ := rfl
      rw [hrp, Cert.Moe.mul_sum_real _ _ hp.1 hp.2]
      exact Finset.sum_congr rfl fun d _ => mul_assoc _ _ _
    · rw [dif_neg he, dif_neg he]
  refine ⟨refOut x rw' i w s, ?_, ?_⟩
  · refine (θ_run Cert.KernelIdeal.defs _ _).mono (fun r h c => ⟨?_, ?_, ?_, ?_, ?_, ?_⟩) (run_main m g)
    · exact ((h.1 c (5 : Fin 6)).trans (final_out m g c)).trans (hout c)
    · exact (h.1 c (0 : Fin 6)).trans (finalA_in m g c (0 : Fin 6) rfl)
    · exact (h.1 c (1 : Fin 6)).trans (finalA_in m g c (1 : Fin 6) rfl)
    · exact (h.1 c (2 : Fin 6)).trans (finalA_in m g c (2 : Fin 6) rfl)
    · exact (h.1 c (3 : Fin 6)).trans (finalA_in m g c (3 : Fin 6) rfl)
    · exact (h.1 c (4 : Fin 6)).trans (finalA_in m g c (4 : Fin 6) rfl)
  · exact (θ_run Cert.ReferenceIdeal.defs _ _).mono (fun r h => h 0) (run_ref m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_slots_suffice_KernelIdeal
public import proofs.«01_k».proof.Proof.Gen.Pre_slots_suffice_ReferenceIdeal
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_slots_suffice_KernelIdeal.Gen.facts, Cert.Pre_slots_suffice_ReferenceIdeal.Gen.facts,
  frame_kernel, frame_ideal, fun m g _ => frame_ideal m g trivial, frame_reference, fun m g _ => frame_reference m g trivial,
  trivial, algebraic⟩

end Cert.Proof

end
